-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S21x1000x1024 : Shape := ⟨3, ![21, 1000, 1024]⟩
abbrev S1024x21x1000 : Shape := ⟨3, ![1024, 21, 1000]⟩
abbrev S128x2048 : Shape := ⟨2, ![128, 2048]⟩
abbrev S21x1000x128 : Shape := ⟨3, ![21, 1000, 128]⟩
abbrev S128x128 : Shape := ⟨2, ![128, 128]⟩
abbrev S128x8 : Shape := ⟨2, ![128, 8]⟩
abbrev S128x1 : Shape := ⟨2, ![128, 1]⟩
abbrev S1x128 : Shape := ⟨2, ![1, 128]⟩
abbrev S20x128 : Shape := ⟨2, ![20, 128]⟩
abbrev S21x128 : Shape := ⟨2, ![21, 128]⟩
abbrev S21x1x128 : Shape := ⟨3, ![21, 1, 128]⟩

abbrev nBuf : Space → Nat
  | .hbm => 3
  | .vmem => 4
  | .smem => 0
  | _ => 0

abbrev bufTy : (tb : Table) → Fin (tcTables nBuf tb) → BufTy
  | .hbm, ⟨0, _⟩ => ⟨S1024x2048, .f32⟩
  | .hbm, ⟨1, _⟩ => ⟨S21x1000x1024, .f32⟩
  | .hbm, ⟨2, _⟩ => ⟨S1024x21x1000, .f32⟩
  | .local _ .vmem, ⟨0, _⟩ => ⟨S128x2048, .f32⟩
  | .local _ .vmem, ⟨1, _⟩ => ⟨S128x2048, .f32⟩
  | .local _ .vmem, ⟨2, _⟩ => ⟨S21x1000x128, .f32⟩
  | .local _ .vmem, ⟨3, _⟩ => ⟨S21x1000x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S21x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024x2048 : Shape := ⟨2, ![1024, 2048]⟩
abbrev S_ : Shape := ⟨0, ![]⟩
abbrev S1024 : Shape := ⟨1, ![1024]⟩
abbrev S1 : Shape := ⟨1, ![1]⟩
abbrev S2 : Shape := ⟨1, ![2]⟩
abbrev S1024x1 : Shape := ⟨2, ![1024, 1]⟩
abbrev S1024x2 : Shape := ⟨2, ![1024, 2]⟩
abbrev S1x2 : Shape := ⟨2, ![1, 2]⟩
abbrev S1024x2x1 : Shape := ⟨3, ![1024, 2, 1]⟩
abbrev S1024x2x2 : Shape := ⟨3, ![1024, 2, 2]⟩
abbrev S1024x1x2 : Shape := ⟨3, ![1024, 1, 2]⟩
abbrev S20 : Shape := ⟨1, ![20]⟩
abbrev S1x20 : Shape := ⟨2, ![1, 20]⟩
abbrev S1024x20 : Shape := ⟨2, ![1024, 20]⟩
abbrev S1x1 : Shape := ⟨2, ![1, 1]⟩
abbrev S1024x21 : Shape := ⟨2, ![1024, 21]⟩
abbrev S1024x21x1 : Shape := ⟨3, ![1024, 21, 1]⟩
abbrev S1x1x1000 : Shape := ⟨3, ![1, 1, 1000]⟩
abbrev S1024x21x1000 : Shape := ⟨3, ![1024, 21, 1000]⟩

abbrev nBuf : Space → Nat
  | .hbm => 1056
  | .vmem => 0
  | .smem => 0
  | _ => 0

abbrev hbmTy0_0 (i : Nat) : BufTy := match i % 128 with
  | 0 => ⟨S1024x2048, .f32⟩
  | 1 => ⟨S_, .f32⟩
  | 2 => ⟨S1024, .f32⟩
  | 3 => ⟨S_, .f32⟩
  | 4 => ⟨S1024, .f32⟩
  | 5 => ⟨S1024, .f32⟩
  | 6 => ⟨S1024, .i32⟩
  | 7 => ⟨S1024, .i32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .i32⟩
  | 19 => ⟨S1024, .i32⟩
  | 20 => ⟨S1024, .i32⟩
  | 21 => ⟨S1024x1, .i32⟩
  | 22 => ⟨S_, .i32⟩
  | 23 => ⟨S1024, .i32⟩
  | 24 => ⟨S1024, .i32⟩
  | 25 => ⟨S1024x1, .i32⟩
  | 26 => ⟨S1024x2, .i32⟩
  | 27 => ⟨S1, .i32⟩
  | 28 => ⟨S_, .i32⟩
  | 29 => ⟨S1, .i32⟩
  | 30 => ⟨S_, .i32⟩
  | 31 => ⟨S1024x1, .i32⟩
  | 32 => ⟨S1024x1, .i32⟩
  | 33 => ⟨S_, .i32⟩
  | 34 => ⟨S_, .i32⟩
  | 35 => ⟨S_, .i32⟩
  | 36 => ⟨S1024x1, .i32⟩
  | 37 => ⟨S1024x1, .i32⟩
  | 38 => ⟨S1024x1, .i32⟩
  | 39 => ⟨S1024x1, .i32⟩
  | 40 => ⟨S1024x1, .i32⟩
  | 41 => ⟨S_, .i32⟩
  | 42 => ⟨S1024x1, .i32⟩
  | 43 => ⟨S1024x1, .i32⟩
  | 44 => ⟨S_, .i32⟩
  | 45 => ⟨S1024x1, .i32⟩
  | 46 => ⟨S1024x1, .i32⟩
  | 47 => ⟨S1024x1, .i32⟩
  | 48 => ⟨S1024x1, .i32⟩
  | 49 => ⟨S1024x1, .i32⟩
  | 50 => ⟨S_, .i32⟩
  | 51 => ⟨S1024x1, .i32⟩
  | 52 => ⟨S1024x1, .i32⟩
  | 53 => ⟨S_, .i32⟩
  | 54 => ⟨S1024x1, .i32⟩
  | 55 => ⟨S1024x1, .i32⟩
  | 56 => ⟨S1024x1, .i32⟩
  | 57 => ⟨S1024x1, .i32⟩
  | 58 => ⟨S1024x1, .i32⟩
  | 59 => ⟨S_, .i32⟩
  | 60 => ⟨S1024x1, .i32⟩
  | 61 => ⟨S1024x1, .i32⟩
  | 62 => ⟨S_, .i32⟩
  | 63 => ⟨S1024x1, .i32⟩
  | 64 => ⟨S1024x1, .i32⟩
  | 65 => ⟨S1024x1, .i32⟩
  | 66 => ⟨S1024x1, .i32⟩
  | 67 => ⟨S1024x1, .i32⟩
  | 68 => ⟨S_, .i32⟩
  | 69 => ⟨S1024x1, .i32⟩
  | 70 => ⟨S1024x1, .i32⟩
  | 71 => ⟨S_, .i32⟩
  | 72 => ⟨S1024x1, .i32⟩
  | 73 => ⟨S1024x1, .i32⟩
  | 74 => ⟨S1024x1, .i32⟩
  | 75 => ⟨S1024x1, .i32⟩
  | 76 => ⟨S1024x1, .i32⟩
  | 77 => ⟨S1024x1, .i32⟩
  | 78 => ⟨S1024x1, .i32⟩
  | 79 => ⟨S1024x1, .i32⟩
  | 80 => ⟨S_, .i32⟩
  | 81 => ⟨S1024x1, .i32⟩
  | 82 => ⟨S1024x1, .i32⟩
  | 83 => ⟨S1024x1, .i32⟩
  | 84 => ⟨S_, .i32⟩
  | 85 => ⟨S1024x1, .i32⟩
  | 86 => ⟨S1024x1, .i32⟩
  | 87 => ⟨S_, .i32⟩
  | 88 => ⟨S1024x1, .i32⟩
  | 89 => ⟨S1024x1, .i32⟩
  | 90 => ⟨S1024x1, .i32⟩
  | 91 => ⟨S1024x1, .i32⟩
  | 92 => ⟨S1024x1, .i32⟩
  | 93 => ⟨S_, .i32⟩
  | 94 => ⟨S1024x1, .i32⟩
  | 95 => ⟨S1024x1, .i32⟩
  | 96 => ⟨S_, .i32⟩
  | 97 => ⟨S1024x1, .i32⟩
  | 98 => ⟨S1024x1, .i32⟩
  | 99 => ⟨S1024x1, .i32⟩
  | 100 => ⟨S1024x1, .i32⟩
  | 101 => ⟨S1024x1, .i32⟩
  | 102 => ⟨S_, .i32⟩
  | 103 => ⟨S1024x1, .i32⟩
  | 104 => ⟨S1024x1, .i32⟩
  | 105 => ⟨S_, .i32⟩
  | 106 => ⟨S1024x1, .i32⟩
  | 107 => ⟨S1024x1, .i32⟩
  | 108 => ⟨S1024x1, .i32⟩
  | 109 => ⟨S1024x1, .i32⟩
  | 110 => ⟨S1024x1, .i32⟩
  | 111 => ⟨S_, .i32⟩
  | 112 => ⟨S1024x1, .i32⟩
  | 113 => ⟨S1024x1, .i32⟩
  | 114 => ⟨S_, .i32⟩
  | 115 => ⟨S1024x1, .i32⟩
  | 116 => ⟨S1024x1, .i32⟩
  | 117 => ⟨S1024x1, .i32⟩
  | 118 => ⟨S1024x1, .i32⟩
  | 119 => ⟨S1024x1, .i32⟩
  | 120 => ⟨S1024x1, .i32⟩
  | 121 => ⟨S1024x1, .i32⟩
  | 122 => ⟨S1024x1, .i32⟩
  | 123 => ⟨S_, .i32⟩
  | 124 => ⟨S1024x1, .i32⟩
  | 125 => ⟨S1024x1, .i32⟩
  | 126 => ⟨S1024x1, .i32⟩
  | 127 => ⟨S_, .i32⟩
  | _ => ⟨S1024x2048, .f32⟩

abbrev hbmTy0_1 (i : Nat) : BufTy := match i % 128 with
  | 0 => ⟨S1024x1, .i32⟩
  | 1 => ⟨S1024x1, .i32⟩
  | 2 => ⟨S_, .i32⟩
  | 3 => ⟨S1024x1, .i32⟩
  | 4 => ⟨S1024x1, .i32⟩
  | 5 => ⟨S1024x1, .i32⟩
  | 6 => ⟨S1024x1, .i32⟩
  | 7 => ⟨S1024x1, .i32⟩
  | 8 => ⟨S_, .i32⟩
  | 9 => ⟨S1024x1, .i32⟩
  | 10 => ⟨S1024x1, .i32⟩
  | 11 => ⟨S_, .i32⟩
  | 12 => ⟨S1024x1, .i32⟩
  | 13 => ⟨S1024x1, .i32⟩
  | 14 => ⟨S1024x1, .i32⟩
  | 15 => ⟨S1024x1, .i32⟩
  | 16 => ⟨S1024x1, .i32⟩
  | 17 => ⟨S_, .i32⟩
  | 18 => ⟨S1024x1, .i32⟩
  | 19 => ⟨S1024x1, .i32⟩
  | 20 => ⟨S_, .i32⟩
  | 21 => ⟨S1024x1, .i32⟩
  | 22 => ⟨S1024x1, .i32⟩
  | 23 => ⟨S1024x1, .i32⟩
  | 24 => ⟨S1024x1, .i32⟩
  | 25 => ⟨S1024x1, .i32⟩
  | 26 => ⟨S_, .i32⟩
  | 27 => ⟨S1024x1, .i32⟩
  | 28 => ⟨S1024x1, .i32⟩
  | 29 => ⟨S_, .i32⟩
  | 30 => ⟨S1024x1, .i32⟩
  | 31 => ⟨S1024x1, .i32⟩
  | 32 => ⟨S1024x1, .i32⟩
  | 33 => ⟨S1024x1, .i32⟩
  | 34 => ⟨S1024x1, .i32⟩
  | 35 => ⟨S1024x1, .i32⟩
  | 36 => ⟨S1024x1, .i32⟩
  | 37 => ⟨S1024x1, .i32⟩
  | 38 => ⟨S_, .i32⟩
  | 39 => ⟨S1024x1, .i32⟩
  | 40 => ⟨S1024x1, .i32⟩
  | 41 => ⟨S1024x1, .i32⟩
  | 42 => ⟨S_, .i32⟩
  | 43 => ⟨S1024x1, .i32⟩
  | 44 => ⟨S1024x1, .i32⟩
  | 45 => ⟨S_, .i32⟩
  | 46 => ⟨S1024x1, .i32⟩
  | 47 => ⟨S1024x1, .i32⟩
  | 48 => ⟨S1024x1, .i32⟩
  | 49 => ⟨S1024x1, .i32⟩
  | 50 => ⟨S1024x1, .i32⟩
  | 51 => ⟨S_, .i32⟩
  | 52 => ⟨S1024x1, .i32⟩
  | 53 => ⟨S1024x1, .i32⟩
  | 54 => ⟨S_, .i32⟩
  | 55 => ⟨S1024x1, .i32⟩
  | 56 => ⟨S1024x1, .i32⟩
  | 57 => ⟨S1024x1, .i32⟩
  | 58 => ⟨S1024x1, .i32⟩
  | 59 => ⟨S1024x1, .i32⟩
  | 60 => ⟨S_, .i32⟩
  | 61 => ⟨S1024x1, .i32⟩
  | 62 => ⟨S1024x1, .i32⟩
  | 63 => ⟨S_, .i32⟩
  | 64 => ⟨S1024x1, .i32⟩
  | 65 => ⟨S1024x1, .i32⟩
  | 66 => ⟨S1024x1, .i32⟩
  | 67 => ⟨S1024x1, .i32⟩
  | 68 => ⟨S1024x1, .i32⟩
  | 69 => ⟨S_, .i32⟩
  | 70 => ⟨S1024x1, .i32⟩
  | 71 => ⟨S1024x1, .i32⟩
  | 72 => ⟨S_, .i32⟩
  | 73 => ⟨S1024x1, .i32⟩
  | 74 => ⟨S1024x1, .i32⟩
  | 75 => ⟨S1024x1, .i32⟩
  | 76 => ⟨S1024x1, .i32⟩
  | 77 => ⟨S1024x1, .i32⟩
  | 78 => ⟨S1024x1, .i32⟩
  | 79 => ⟨S1024x1, .i32⟩
  | 80 => ⟨S1024x1, .i32⟩
  | 81 => ⟨S_, .i32⟩
  | 82 => ⟨S1024x1, .i32⟩
  | 83 => ⟨S1024x1, .i32⟩
  | 84 => ⟨S1024x1, .i32⟩
  | 85 => ⟨S_, .i32⟩
  | 86 => ⟨S1024x1, .i32⟩
  | 87 => ⟨S1024x1, .i32⟩
  | 88 => ⟨S_, .i32⟩
  | 89 => ⟨S1024x1, .i32⟩
  | 90 => ⟨S1024x1, .i32⟩
  | 91 => ⟨S1024x1, .i32⟩
  | 92 => ⟨S1024x1, .i32⟩
  | 93 => ⟨S1024x1, .i32⟩
  | 94 => ⟨S_, .i32⟩
  | 95 => ⟨S1024x1, .i32⟩
  | 96 => ⟨S1024x1, .i32⟩
  | 97 => ⟨S_, .i32⟩
  | 98 => ⟨S1024x1, .i32⟩
  | 99 => ⟨S1024x1, .i32⟩
  | 100 => ⟨S1024x1, .i32⟩
  | 101 => ⟨S1024x1, .i32⟩
  | 102 => ⟨S1024x1, .i32⟩
  | 103 => ⟨S_, .i32⟩
  | 104 => ⟨S1024x1, .i32⟩
  | 105 => ⟨S1024x1, .i32⟩
  | 106 => ⟨S_, .i32⟩
  | 107 => ⟨S1024x1, .i32⟩
  | 108 => ⟨S1024x1, .i32⟩
  | 109 => ⟨S1024x1, .i32⟩
  | 110 => ⟨S1024x1, .i32⟩
  | 111 => ⟨S1024x1, .i32⟩
  | 112 => ⟨S_, .i32⟩
  | 113 => ⟨S1024x1, .i32⟩
  | 114 => ⟨S1024x1, .i32⟩
  | 115 => ⟨S_, .i32⟩
  | 116 => ⟨S1024x1, .i32⟩
  | 117 => ⟨S1024x1, .i32⟩
  | 118 => ⟨S1024x1, .i32⟩
  | 119 => ⟨S1024x1, .i32⟩
  | 120 => ⟨S1024x1, .i32⟩
  | 121 => ⟨S1024x1, .i32⟩
  | 122 => ⟨S1024x1, .i32⟩
  | 123 => ⟨S1024x1, .i32⟩
  | 124 => ⟨S_, .i32⟩
  | 125 => ⟨S1024x1, .i32⟩
  | 126 => ⟨S1024x1, .i32⟩
  | 127 => ⟨S1024x2, .i32⟩
  | _ => ⟨S1024x2048, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S1, .i32⟩
  | 19 => ⟨S1, .i32⟩
  | 20 => ⟨S1024x1, .i32⟩
  | 21 => ⟨S1024, .i32⟩
  | 22 => ⟨S1024x1, .i32⟩
  | 23 => ⟨S1024, .i32⟩
  | 24 => ⟨S2, .i64⟩
  | 25 => ⟨S_, .i64⟩
  | 26 => ⟨S2, .i64⟩
  | 27 => ⟨S2, .i64⟩
  | 28 => ⟨S_, .i64⟩
  | 29 => ⟨S2, .i64⟩
  | 30 => ⟨S2, .i64⟩
  | 31 => ⟨S2, .i32⟩
  | 32 => ⟨S2, .i32⟩
  | 33 => ⟨S1x2, .i32⟩
  | 34 => ⟨S1x2, .i32⟩
  | 35 => ⟨S1024x1, .i32⟩
  | 36 => ⟨S1024x1, .i32⟩
  | 37 => ⟨S1024x1, .i32⟩
  | 38 => ⟨S_, .i32⟩
  | 39 => ⟨S1024x1, .i32⟩
  | 40 => ⟨S1024x1, .i32⟩
  | 41 => ⟨S1024x2, .i32⟩
  | 42 => ⟨S1024x2, .i32⟩
  | 43 => ⟨S1024x2, .i32⟩
  | 44 => ⟨S1024x2, .i32⟩
  | 45 => ⟨S1024x2, .i32⟩
  | 46 => ⟨S1024x2, .i32⟩
  | 47 => ⟨S1024x2, .i32⟩
  | 48 => ⟨S_, .i32⟩
  | 49 => ⟨S1024x2, .i32⟩
  | 50 => ⟨S1024x2, .i32⟩
  | 51 => ⟨S_, .i32⟩
  | 52 => ⟨S1024x2, .i32⟩
  | 53 => ⟨S1024x2, .i32⟩
  | 54 => ⟨S1024x2, .i32⟩
  | 55 => ⟨S1024x2, .i32⟩
  | 56 => ⟨S1024x2, .i32⟩
  | 57 => ⟨S_, .i32⟩
  | 58 => ⟨S1024x2, .i32⟩
  | 59 => ⟨S1024x2, .i32⟩
  | 60 => ⟨S_, .i32⟩
  | 61 => ⟨S1024x2, .i32⟩
  | 62 => ⟨S1024x2, .i32⟩
  | 63 => ⟨S1024x2, .i32⟩
  | 64 => ⟨S1024x2, .i32⟩
  | 65 => ⟨S1024x2, .i32⟩
  | 66 => ⟨S_, .i32⟩
  | 67 => ⟨S1024x2, .i32⟩
  | 68 => ⟨S1024x2, .i32⟩
  | 69 => ⟨S_, .i32⟩
  | 70 => ⟨S1024x2, .i32⟩
  | 71 => ⟨S1024x2, .i32⟩
  | 72 => ⟨S1024x2, .i32⟩
  | 73 => ⟨S1024x2, .i32⟩
  | 74 => ⟨S1024x2, .i32⟩
  | 75 => ⟨S_, .i32⟩
  | 76 => ⟨S1024x2, .i32⟩
  | 77 => ⟨S1024x2, .i32⟩
  | 78 => ⟨S_, .i32⟩
  | 79 => ⟨S1024x2, .i32⟩
  | 80 => ⟨S1024x2, .i32⟩
  | 81 => ⟨S1024x2, .i32⟩
  | 82 => ⟨S1024x2, .i32⟩
  | 83 => ⟨S1024x2, .i32⟩
  | 84 => ⟨S1024x2, .i32⟩
  | 85 => ⟨S1024x2, .i32⟩
  | 86 => ⟨S1024x2, .i32⟩
  | 87 => ⟨S_, .i32⟩
  | 88 => ⟨S1024x2, .i32⟩
  | 89 => ⟨S1024x2, .i32⟩
  | 90 => ⟨S1024x2, .i32⟩
  | 91 => ⟨S_, .i32⟩
  | 92 => ⟨S1024x2, .i32⟩
  | 93 => ⟨S1024x2, .i32⟩
  | 94 => ⟨S_, .i32⟩
  | 95 => ⟨S1024x2, .i32⟩
  | 96 => ⟨S1024x2, .i32⟩
  | 97 => ⟨S1024x2, .i32⟩
  | 98 => ⟨S1024x2, .i32⟩
  | 99 => ⟨S1024x2, .i32⟩
  | 100 => ⟨S_, .i32⟩
  | 101 => ⟨S1024x2, .i32⟩
  | 102 => ⟨S1024x2, .i32⟩
  | 103 => ⟨S_, .i32⟩
  | 104 => ⟨S1024x2, .i32⟩
  | 105 => ⟨S1024x2, .i32⟩
  | 106 => ⟨S1024x2, .i32⟩
  | 107 => ⟨S1024x2, .i32⟩
  | 108 => ⟨S1024x2, .i32⟩
  | 109 => ⟨S_, .i32⟩
  | 110 => ⟨S1024x2, .i32⟩
  | 111 => ⟨S1024x2, .i32⟩
  | 112 => ⟨S_, .i32⟩
  | 113 => ⟨S1024x2, .i32⟩
  | 114 => ⟨S1024x2, .i32⟩
  | 115 => ⟨S1024x2, .i32⟩
  | 116 => ⟨S1024x2, .i32⟩
  | 117 => ⟨S1024x2, .i32⟩
  | 118 => ⟨S_, .i32⟩
  | 119 => ⟨S1024x2, .i32⟩
  | 120 => ⟨S1024x2, .i32⟩
  | 121 => ⟨S_, .i32⟩
  | 122 => ⟨S1024x2, .i32⟩
  | 123 => ⟨S1024x2, .i32⟩
  | 124 => ⟨S1024x2, .i32⟩
  | 125 => ⟨S1024x2, .i32⟩
  | 126 => ⟨S1024x2, .i32⟩
  | 127 => ⟨S1024x2, .i32⟩
  | _ => ⟨S1024x2048, .f32⟩

abbrev hbmTy0_3 (i : Nat) : BufTy := match i % 128 with
  | 0 => ⟨S1024x2, .i32⟩
  | 1 => ⟨S1024x2, .i32⟩
  | 2 => ⟨S_, .i32⟩
  | 3 => ⟨S1024x2, .i32⟩
  | 4 => ⟨S1024x2, .i32⟩
  | 5 => ⟨S1024x2, .i32⟩
  | 6 => ⟨S_, .i32⟩
  | 7 => ⟨S1024x2, .i32⟩
  | 8 => ⟨S1024x2, .i32⟩
  | 9 => ⟨S_, .i32⟩
  | 10 => ⟨S1024x2, .i32⟩
  | 11 => ⟨S1024x2, .i32⟩
  | 12 => ⟨S1024x2, .i32⟩
  | 13 => ⟨S1024x2, .i32⟩
  | 14 => ⟨S1024x2, .i32⟩
  | 15 => ⟨S_, .i32⟩
  | 16 => ⟨S1024x2, .i32⟩
  | 17 => ⟨S1024x2, .i32⟩
  | 18 => ⟨S_, .i32⟩
  | 19 => ⟨S1024x2, .i32⟩
  | 20 => ⟨S1024x2, .i32⟩
  | 21 => ⟨S1024x2, .i32⟩
  | 22 => ⟨S1024x2, .i32⟩
  | 23 => ⟨S1024x2, .i32⟩
  | 24 => ⟨S_, .i32⟩
  | 25 => ⟨S1024x2, .i32⟩
  | 26 => ⟨S1024x2, .i32⟩
  | 27 => ⟨S_, .i32⟩
  | 28 => ⟨S1024x2, .i32⟩
  | 29 => ⟨S1024x2, .i32⟩
  | 30 => ⟨S1024x2, .i32⟩
  | 31 => ⟨S1024x2, .i32⟩
  | 32 => ⟨S1024x2, .i32⟩
  | 33 => ⟨S_, .i32⟩
  | 34 => ⟨S1024x2, .i32⟩
  | 35 => ⟨S1024x2, .i32⟩
  | 36 => ⟨S_, .i32⟩
  | 37 => ⟨S1024x2, .i32⟩
  | 38 => ⟨S1024x2, .i32⟩
  | 39 => ⟨S1024x2, .i32⟩
  | 40 => ⟨S1024x2, .i32⟩
  | 41 => ⟨S1024x2, .i32⟩
  | 42 => ⟨S1024x2, .i32⟩
  | 43 => ⟨S1024x2, .i32⟩
  | 44 => ⟨S1024x2, .i32⟩
  | 45 => ⟨S_, .i32⟩
  | 46 => ⟨S1024x2, .i32⟩
  | 47 => ⟨S1024x2, .i32⟩
  | 48 => ⟨S1024x2, .i32⟩
  | 49 => ⟨S_, .i32⟩
  | 50 => ⟨S1024x2, .i32⟩
  | 51 => ⟨S1024x2, .i32⟩
  | 52 => ⟨S_, .i32⟩
  | 53 => ⟨S1024x2, .i32⟩
  | 54 => ⟨S1024x2, .i32⟩
  | 55 => ⟨S1024x2, .i32⟩
  | 56 => ⟨S1024x2, .i32⟩
  | 57 => ⟨S1024x2, .i32⟩
  | 58 => ⟨S_, .i32⟩
  | 59 => ⟨S1024x2, .i32⟩
  | 60 => ⟨S1024x2, .i32⟩
  | 61 => ⟨S_, .i32⟩
  | 62 => ⟨S1024x2, .i32⟩
  | 63 => ⟨S1024x2, .i32⟩
  | 64 => ⟨S1024x2, .i32⟩
  | 65 => ⟨S1024x2, .i32⟩
  | 66 => ⟨S1024x2, .i32⟩
  | 67 => ⟨S_, .i32⟩
  | 68 => ⟨S1024x2, .i32⟩
  | 69 => ⟨S1024x2, .i32⟩
  | 70 => ⟨S_, .i32⟩
  | 71 => ⟨S1024x2, .i32⟩
  | 72 => ⟨S1024x2, .i32⟩
  | 73 => ⟨S1024x2, .i32⟩
  | 74 => ⟨S1024x2, .i32⟩
  | 75 => ⟨S1024x2, .i32⟩
  | 76 => ⟨S_, .i32⟩
  | 77 => ⟨S1024x2, .i32⟩
  | 78 => ⟨S1024x2, .i32⟩
  | 79 => ⟨S_, .i32⟩
  | 80 => ⟨S1024x2, .i32⟩
  | 81 => ⟨S1024x2, .i32⟩
  | 82 => ⟨S1024x2, .i32⟩
  | 83 => ⟨S1024x2, .i32⟩
  | 84 => ⟨S1024x2, .i32⟩
  | 85 => ⟨S1024x2, .i32⟩
  | 86 => ⟨S1024x2, .i32⟩
  | 87 => ⟨S1024x2, .i32⟩
  | 88 => ⟨S_, .i32⟩
  | 89 => ⟨S1024x2, .i32⟩
  | 90 => ⟨S1024x2, .i32⟩
  | 91 => ⟨S1024x2, .i32⟩
  | 92 => ⟨S_, .i32⟩
  | 93 => ⟨S1024x2, .i32⟩
  | 94 => ⟨S1024x2, .i32⟩
  | 95 => ⟨S_, .i32⟩
  | 96 => ⟨S1024x2, .i32⟩
  | 97 => ⟨S1024x2, .i32⟩
  | 98 => ⟨S1024x2, .i32⟩
  | 99 => ⟨S1024x2, .i32⟩
  | 100 => ⟨S1024x2, .i32⟩
  | 101 => ⟨S_, .i32⟩
  | 102 => ⟨S1024x2, .i32⟩
  | 103 => ⟨S1024x2, .i32⟩
  | 104 => ⟨S_, .i32⟩
  | 105 => ⟨S1024x2, .i32⟩
  | 106 => ⟨S1024x2, .i32⟩
  | 107 => ⟨S1024x2, .i32⟩
  | 108 => ⟨S1024x2, .i32⟩
  | 109 => ⟨S1024x2, .i32⟩
  | 110 => ⟨S_, .i32⟩
  | 111 => ⟨S1024x2, .i32⟩
  | 112 => ⟨S1024x2, .i32⟩
  | 113 => ⟨S_, .i32⟩
  | 114 => ⟨S1024x2, .i32⟩
  | 115 => ⟨S1024x2, .i32⟩
  | 116 => ⟨S1024x2, .i32⟩
  | 117 => ⟨S1024x2, .i32⟩
  | 118 => ⟨S1024x2, .i32⟩
  | 119 => ⟨S_, .i32⟩
  | 120 => ⟨S1024x2, .i32⟩
  | 121 => ⟨S1024x2, .i32⟩
  | 122 => ⟨S_, .i32⟩
  | 123 => ⟨S1024x2, .i32⟩
  | 124 => ⟨S1024x2, .i32⟩
  | 125 => ⟨S1024x2, .i32⟩
  | 126 => ⟨S1024x2, .i32⟩
  | 127 => ⟨S1024x2, .i32⟩
  | _ => ⟨S1024x2048, .f32⟩

abbrev hbmTy0_4 (i : Nat) : BufTy := match i % 128 with
  | 0 => ⟨S1024x2, .i32⟩
  | 1 => ⟨S1024x2, .i32⟩
  | 2 => ⟨S1024x2, .i32⟩
  | 3 => ⟨S_, .i32⟩
  | 4 => ⟨S1024x2, .i32⟩
  | 5 => ⟨S1024x2, .i32⟩
  | 6 => ⟨S1024x2x1, .i32⟩
  | 7 => ⟨S1024x2x1, .i32⟩
  | 8 => ⟨S1024x2x2, .i32⟩
  | 9 => ⟨S1024x1x2, .i32⟩
  | 10 => ⟨S1024x2, .i32⟩
  | 11 => ⟨S1024x1x2, .i32⟩
  | 12 => ⟨S1024x2, .i32⟩
  | 13 => ⟨S1024x1, .i32⟩
  | 14 => ⟨S1024, .i32⟩
  | 15 => ⟨S1024x1, .i32⟩
  | 16 => ⟨S1024, .i32⟩
  | 17 => ⟨S20, .i64⟩
  | 18 => ⟨S_, .i64⟩
  | 19 => ⟨S20, .i64⟩
  | 20 => ⟨S20, .i64⟩
  | 21 => ⟨S_, .i64⟩
  | 22 => ⟨S20, .i64⟩
  | 23 => ⟨S20, .i64⟩
  | 24 => ⟨S20, .i32⟩
  | 25 => ⟨S20, .i32⟩
  | 26 => ⟨S1x20, .i32⟩
  | 27 => ⟨S1x20, .i32⟩
  | 28 => ⟨S1024x1, .i32⟩
  | 29 => ⟨S1024x1, .i32⟩
  | 30 => ⟨S1024x1, .i32⟩
  | 31 => ⟨S_, .i32⟩
  | 32 => ⟨S1024x1, .i32⟩
  | 33 => ⟨S1024x1, .i32⟩
  | 34 => ⟨S1024x20, .i32⟩
  | 35 => ⟨S1024x20, .i32⟩
  | 36 => ⟨S1024x20, .i32⟩
  | 37 => ⟨S1024x20, .i32⟩
  | 38 => ⟨S1024x20, .i32⟩
  | 39 => ⟨S1024x20, .i32⟩
  | 40 => ⟨S1024x20, .i32⟩
  | 41 => ⟨S_, .i32⟩
  | 42 => ⟨S1024x20, .i32⟩
  | 43 => ⟨S1024x20, .i32⟩
  | 44 => ⟨S_, .i32⟩
  | 45 => ⟨S1024x20, .i32⟩
  | 46 => ⟨S1024x20, .i32⟩
  | 47 => ⟨S1024x20, .i32⟩
  | 48 => ⟨S1024x20, .i32⟩
  | 49 => ⟨S1024x20, .i32⟩
  | 50 => ⟨S_, .i32⟩
  | 51 => ⟨S1024x20, .i32⟩
  | 52 => ⟨S1024x20, .i32⟩
  | 53 => ⟨S_, .i32⟩
  | 54 => ⟨S1024x20, .i32⟩
  | 55 => ⟨S1024x20, .i32⟩
  | 56 => ⟨S1024x20, .i32⟩
  | 57 => ⟨S1024x20, .i32⟩
  | 58 => ⟨S1024x20, .i32⟩
  | 59 => ⟨S_, .i32⟩
  | 60 => ⟨S1024x20, .i32⟩
  | 61 => ⟨S1024x20, .i32⟩
  | 62 => ⟨S_, .i32⟩
  | 63 => ⟨S1024x20, .i32⟩
  | 64 => ⟨S1024x20, .i32⟩
  | 65 => ⟨S1024x20, .i32⟩
  | 66 => ⟨S1024x20, .i32⟩
  | 67 => ⟨S1024x20, .i32⟩
  | 68 => ⟨S_, .i32⟩
  | 69 => ⟨S1024x20, .i32⟩
  | 70 => ⟨S1024x20, .i32⟩
  | 71 => ⟨S_, .i32⟩
  | 72 => ⟨S1024x20, .i32⟩
  | 73 => ⟨S1024x20, .i32⟩
  | 74 => ⟨S1024x20, .i32⟩
  | 75 => ⟨S1024x20, .i32⟩
  | 76 => ⟨S1024x20, .i32⟩
  | 77 => ⟨S1024x20, .i32⟩
  | 78 => ⟨S1024x20, .i32⟩
  | 79 => ⟨S1024x20, .i32⟩
  | 80 => ⟨S_, .i32⟩
  | 81 => ⟨S1024x20, .i32⟩
  | 82 => ⟨S1024x20, .i32⟩
  | 83 => ⟨S1024x20, .i32⟩
  | 84 => ⟨S_, .i32⟩
  | 85 => ⟨S1024x20, .i32⟩
  | 86 => ⟨S1024x20, .i32⟩
  | 87 => ⟨S_, .i32⟩
  | 88 => ⟨S1024x20, .i32⟩
  | 89 => ⟨S1024x20, .i32⟩
  | 90 => ⟨S1024x20, .i32⟩
  | 91 => ⟨S1024x20, .i32⟩
  | 92 => ⟨S1024x20, .i32⟩
  | 93 => ⟨S_, .i32⟩
  | 94 => ⟨S1024x20, .i32⟩
  | 95 => ⟨S1024x20, .i32⟩
  | 96 => ⟨S_, .i32⟩
  | 97 => ⟨S1024x20, .i32⟩
  | 98 => ⟨S1024x20, .i32⟩
  | 99 => ⟨S1024x20, .i32⟩
  | 100 => ⟨S1024x20, .i32⟩
  | 101 => ⟨S1024x20, .i32⟩
  | 102 => ⟨S_, .i32⟩
  | 103 => ⟨S1024x20, .i32⟩
  | 104 => ⟨S1024x20, .i32⟩
  | 105 => ⟨S_, .i32⟩
  | 106 => ⟨S1024x20, .i32⟩
  | 107 => ⟨S1024x20, .i32⟩
  | 108 => ⟨S1024x20, .i32⟩
  | 109 => ⟨S1024x20, .i32⟩
  | 110 => ⟨S1024x20, .i32⟩
  | 111 => ⟨S_, .i32⟩
  | 112 => ⟨S1024x20, .i32⟩
  | 113 => ⟨S1024x20, .i32⟩
  | 114 => ⟨S_, .i32⟩
  | 115 => ⟨S1024x20, .i32⟩
  | 116 => ⟨S1024x20, .i32⟩
  | 117 => ⟨S1024x20, .i32⟩
  | 118 => ⟨S1024x20, .i32⟩
  | 119 => ⟨S1024x20, .i32⟩
  | 120 => ⟨S1024x20, .i32⟩
  | 121 => ⟨S1024x20, .i32⟩
  | 122 => ⟨S1024x20, .i32⟩
  | 123 => ⟨S_, .i32⟩
  | 124 => ⟨S1024x20, .i32⟩
  | 125 => ⟨S1024x20, .i32⟩
  | 126 => ⟨S1024x20, .i32⟩
  | 127 => ⟨S_, .i32⟩
  | _ => ⟨S1024x2048, .f32⟩

abbrev hbmTy0_5 (i : Nat) : BufTy := match i % 128 with
  | 0 => ⟨S1024x20, .i32⟩
  | 1 => ⟨S1024x20, .i32⟩
  | 2 => ⟨S_, .i32⟩
  | 3 => ⟨S1024x20, .i32⟩
  | 4 => ⟨S1024x20, .i32⟩
  | 5 => ⟨S1024x20, .i32⟩
  | 6 => ⟨S1024x20, .i32⟩
  | 7 => ⟨S1024x20, .i32⟩
  | 8 => ⟨S_, .i32⟩
  | 9 => ⟨S1024x20, .i32⟩
  | 10 => ⟨S1024x20, .i32⟩
  | 11 => ⟨S_, .i32⟩
  | 12 => ⟨S1024x20, .i32⟩
  | 13 => ⟨S1024x20, .i32⟩
  | 14 => ⟨S1024x20, .i32⟩
  | 15 => ⟨S1024x20, .i32⟩
  | 16 => ⟨S1024x20, .i32⟩
  | 17 => ⟨S_, .i32⟩
  | 18 => ⟨S1024x20, .i32⟩
  | 19 => ⟨S1024x20, .i32⟩
  | 20 => ⟨S_, .i32⟩
  | 21 => ⟨S1024x20, .i32⟩
  | 22 => ⟨S1024x20, .i32⟩
  | 23 => ⟨S1024x20, .i32⟩
  | 24 => ⟨S1024x20, .i32⟩
  | 25 => ⟨S1024x20, .i32⟩
  | 26 => ⟨S_, .i32⟩
  | 27 => ⟨S1024x20, .i32⟩
  | 28 => ⟨S1024x20, .i32⟩
  | 29 => ⟨S_, .i32⟩
  | 30 => ⟨S1024x20, .i32⟩
  | 31 => ⟨S1024x20, .i32⟩
  | 32 => ⟨S1024x20, .i32⟩
  | 33 => ⟨S1024x20, .i32⟩
  | 34 => ⟨S1024x20, .i32⟩
  | 35 => ⟨S1024x20, .i32⟩
  | 36 => ⟨S1024x20, .i32⟩
  | 37 => ⟨S1024x20, .i32⟩
  | 38 => ⟨S_, .i32⟩
  | 39 => ⟨S1024x20, .i32⟩
  | 40 => ⟨S1024x20, .i32⟩
  | 41 => ⟨S1024x20, .i32⟩
  | 42 => ⟨S_, .i32⟩
  | 43 => ⟨S1024x20, .i32⟩
  | 44 => ⟨S1024x20, .i32⟩
  | 45 => ⟨S_, .i32⟩
  | 46 => ⟨S1024x20, .i32⟩
  | 47 => ⟨S1024x20, .i32⟩
  | 48 => ⟨S1024x20, .i32⟩
  | 49 => ⟨S1024x20, .i32⟩
  | 50 => ⟨S1024x20, .i32⟩
  | 51 => ⟨S_, .i32⟩
  | 52 => ⟨S1024x20, .i32⟩
  | 53 => ⟨S1024x20, .i32⟩
  | 54 => ⟨S_, .i32⟩
  | 55 => ⟨S1024x20, .i32⟩
  | 56 => ⟨S1024x20, .i32⟩
  | 57 => ⟨S1024x20, .i32⟩
  | 58 => ⟨S1024x20, .i32⟩
  | 59 => ⟨S1024x20, .i32⟩
  | 60 => ⟨S_, .i32⟩
  | 61 => ⟨S1024x20, .i32⟩
  | 62 => ⟨S1024x20, .i32⟩
  | 63 => ⟨S_, .i32⟩
  | 64 => ⟨S1024x20, .i32⟩
  | 65 => ⟨S1024x20, .i32⟩
  | 66 => ⟨S1024x20, .i32⟩
  | 67 => ⟨S1024x20, .i32⟩
  | 68 => ⟨S1024x20, .i32⟩
  | 69 => ⟨S_, .i32⟩
  | 70 => ⟨S1024x20, .i32⟩
  | 71 => ⟨S1024x20, .i32⟩
  | 72 => ⟨S_, .i32⟩
  | 73 => ⟨S1024x20, .i32⟩
  | 74 => ⟨S1024x20, .i32⟩
  | 75 => ⟨S1024x20, .i32⟩
  | 76 => ⟨S1024x20, .i32⟩
  | 77 => ⟨S1024x20, .i32⟩
  | 78 => ⟨S1024x20, .i32⟩
  | 79 => ⟨S1024x20, .i32⟩
  | 80 => ⟨S1024x20, .i32⟩
  | 81 => ⟨S_, .i32⟩
  | 82 => ⟨S1024x20, .i32⟩
  | 83 => ⟨S1024x20, .i32⟩
  | 84 => ⟨S1024x20, .i32⟩
  | 85 => ⟨S_, .i32⟩
  | 86 => ⟨S1024x20, .i32⟩
  | 87 => ⟨S1024x20, .i32⟩
  | 88 => ⟨S_, .i32⟩
  | 89 => ⟨S1024x20, .i32⟩
  | 90 => ⟨S1024x20, .i32⟩
  | 91 => ⟨S1024x20, .i32⟩
  | 92 => ⟨S1024x20, .i32⟩
  | 93 => ⟨S1024x20, .i32⟩
  | 94 => ⟨S_, .i32⟩
  | 95 => ⟨S1024x20, .i32⟩
  | 96 => ⟨S1024x20, .i32⟩
  | 97 => ⟨S_, .i32⟩
  | 98 => ⟨S1024x20, .i32⟩
  | 99 => ⟨S1024x20, .i32⟩
  | 100 => ⟨S1024x20, .i32⟩
  | 101 => ⟨S1024x20, .i32⟩
  | 102 => ⟨S1024x20, .i32⟩
  | 103 => ⟨S_, .i32⟩
  | 104 => ⟨S1024x20, .i32⟩
  | 105 => ⟨S1024x20, .i32⟩
  | 106 => ⟨S_, .i32⟩
  | 107 => ⟨S1024x20, .i32⟩
  | 108 => ⟨S1024x20, .i32⟩
  | 109 => ⟨S1024x20, .i32⟩
  | 110 => ⟨S1024x20, .i32⟩
  | 111 => ⟨S1024x20, .i32⟩
  | 112 => ⟨S_, .i32⟩
  | 113 => ⟨S1024x20, .i32⟩
  | 114 => ⟨S1024x20, .i32⟩
  | 115 => ⟨S_, .i32⟩
  | 116 => ⟨S1024x20, .i32⟩
  | 117 => ⟨S1024x20, .i32⟩
  | 118 => ⟨S1024x20, .i32⟩
  | 119 => ⟨S1024x20, .i32⟩
  | 120 => ⟨S1024x20, .i32⟩
  | 121 => ⟨S1024x20, .i32⟩
  | 122 => ⟨S1024x20, .i32⟩
  | 123 => ⟨S1024x20, .i32⟩
  | 124 => ⟨S_, .i32⟩
  | 125 => ⟨S1024x20, .i32⟩
  | 126 => ⟨S1024x20, .i32⟩
  | 127 => ⟨S1024x20, .i32⟩
  | _ => ⟨S1024x2048, .f32⟩

abbrev hbmTy0_6 (i : Nat) : BufTy := match i % 128 with
  | 0 => ⟨S1024x1, .i32⟩
  | 1 => ⟨S1024, .i32⟩
  | 2 => ⟨S1024x1, .i32⟩
  | 3 => ⟨S1024, .i32⟩
  | 4 => ⟨S20, .i64⟩
  | 5 => ⟨S_, .i64⟩
  | 6 => ⟨S20, .i64⟩
  | 7 => ⟨S20, .i64⟩
  | 8 => ⟨S_, .i64⟩
  | 9 => ⟨S20, .i64⟩
  | 10 => ⟨S20, .i64⟩
  | 11 => ⟨S20, .i32⟩
  | 12 => ⟨S20, .i32⟩
  | 13 => ⟨S1x20, .i32⟩
  | 14 => ⟨S1x20, .i32⟩
  | 15 => ⟨S1024x1, .i32⟩
  | 16 => ⟨S1024x1, .i32⟩
  | 17 => ⟨S1024x1, .i32⟩
  | 18 => ⟨S_, .i32⟩
  | 19 => ⟨S1024x1, .i32⟩
  | 20 => ⟨S1024x1, .i32⟩
  | 21 => ⟨S1024x20, .i32⟩
  | 22 => ⟨S1024x20, .i32⟩
  | 23 => ⟨S1024x20, .i32⟩
  | 24 => ⟨S1024x20, .i32⟩
  | 25 => ⟨S1024x20, .i32⟩
  | 26 => ⟨S1024x20, .i32⟩
  | 27 => ⟨S1024x20, .i32⟩
  | 28 => ⟨S_, .i32⟩
  | 29 => ⟨S1024x20, .i32⟩
  | 30 => ⟨S1024x20, .i32⟩
  | 31 => ⟨S_, .i32⟩
  | 32 => ⟨S1024x20, .i32⟩
  | 33 => ⟨S1024x20, .i32⟩
  | 34 => ⟨S1024x20, .i32⟩
  | 35 => ⟨S1024x20, .i32⟩
  | 36 => ⟨S1024x20, .i32⟩
  | 37 => ⟨S_, .i32⟩
  | 38 => ⟨S1024x20, .i32⟩
  | 39 => ⟨S1024x20, .i32⟩
  | 40 => ⟨S_, .i32⟩
  | 41 => ⟨S1024x20, .i32⟩
  | 42 => ⟨S1024x20, .i32⟩
  | 43 => ⟨S1024x20, .i32⟩
  | 44 => ⟨S1024x20, .i32⟩
  | 45 => ⟨S1024x20, .i32⟩
  | 46 => ⟨S_, .i32⟩
  | 47 => ⟨S1024x20, .i32⟩
  | 48 => ⟨S1024x20, .i32⟩
  | 49 => ⟨S_, .i32⟩
  | 50 => ⟨S1024x20, .i32⟩
  | 51 => ⟨S1024x20, .i32⟩
  | 52 => ⟨S1024x20, .i32⟩
  | 53 => ⟨S1024x20, .i32⟩
  | 54 => ⟨S1024x20, .i32⟩
  | 55 => ⟨S_, .i32⟩
  | 56 => ⟨S1024x20, .i32⟩
  | 57 => ⟨S1024x20, .i32⟩
  | 58 => ⟨S_, .i32⟩
  | 59 => ⟨S1024x20, .i32⟩
  | 60 => ⟨S1024x20, .i32⟩
  | 61 => ⟨S1024x20, .i32⟩
  | 62 => ⟨S1024x20, .i32⟩
  | 63 => ⟨S1024x20, .i32⟩
  | 64 => ⟨S1024x20, .i32⟩
  | 65 => ⟨S1024x20, .i32⟩
  | 66 => ⟨S1024x20, .i32⟩
  | 67 => ⟨S_, .i32⟩
  | 68 => ⟨S1024x20, .i32⟩
  | 69 => ⟨S1024x20, .i32⟩
  | 70 => ⟨S1024x20, .i32⟩
  | 71 => ⟨S_, .i32⟩
  | 72 => ⟨S1024x20, .i32⟩
  | 73 => ⟨S1024x20, .i32⟩
  | 74 => ⟨S_, .i32⟩
  | 75 => ⟨S1024x20, .i32⟩
  | 76 => ⟨S1024x20, .i32⟩
  | 77 => ⟨S1024x20, .i32⟩
  | 78 => ⟨S1024x20, .i32⟩
  | 79 => ⟨S1024x20, .i32⟩
  | 80 => ⟨S_, .i32⟩
  | 81 => ⟨S1024x20, .i32⟩
  | 82 => ⟨S1024x20, .i32⟩
  | 83 => ⟨S_, .i32⟩
  | 84 => ⟨S1024x20, .i32⟩
  | 85 => ⟨S1024x20, .i32⟩
  | 86 => ⟨S1024x20, .i32⟩
  | 87 => ⟨S1024x20, .i32⟩
  | 88 => ⟨S1024x20, .i32⟩
  | 89 => ⟨S_, .i32⟩
  | 90 => ⟨S1024x20, .i32⟩
  | 91 => ⟨S1024x20, .i32⟩
  | 92 => ⟨S_, .i32⟩
  | 93 => ⟨S1024x20, .i32⟩
  | 94 => ⟨S1024x20, .i32⟩
  | 95 => ⟨S1024x20, .i32⟩
  | 96 => ⟨S1024x20, .i32⟩
  | 97 => ⟨S1024x20, .i32⟩
  | 98 => ⟨S_, .i32⟩
  | 99 => ⟨S1024x20, .i32⟩
  | 100 => ⟨S1024x20, .i32⟩
  | 101 => ⟨S_, .i32⟩
  | 102 => ⟨S1024x20, .i32⟩
  | 103 => ⟨S1024x20, .i32⟩
  | 104 => ⟨S1024x20, .i32⟩
  | 105 => ⟨S1024x20, .i32⟩
  | 106 => ⟨S1024x20, .i32⟩
  | 107 => ⟨S1024x20, .i32⟩
  | 108 => ⟨S1024x20, .i32⟩
  | 109 => ⟨S1024x20, .i32⟩
  | 110 => ⟨S_, .i32⟩
  | 111 => ⟨S1024x20, .i32⟩
  | 112 => ⟨S1024x20, .i32⟩
  | 113 => ⟨S1024x20, .i32⟩
  | 114 => ⟨S_, .i32⟩
  | 115 => ⟨S1024x20, .i32⟩
  | 116 => ⟨S1024x20, .i32⟩
  | 117 => ⟨S_, .i32⟩
  | 118 => ⟨S1024x20, .i32⟩
  | 119 => ⟨S1024x20, .i32⟩
  | 120 => ⟨S1024x20, .i32⟩
  | 121 => ⟨S1024x20, .i32⟩
  | 122 => ⟨S1024x20, .i32⟩
  | 123 => ⟨S_, .i32⟩
  | 124 => ⟨S1024x20, .i32⟩
  | 125 => ⟨S1024x20, .i32⟩
  | 126 => ⟨S_, .i32⟩
  | 127 => ⟨S1024x20, .i32⟩
  | _ => ⟨S1024x2048, .f32⟩

abbrev hbmTy0_7 (i : Nat) : BufTy := match i % 128 with
  | 0 => ⟨S1024x20, .i32⟩
  | 1 => ⟨S1024x20, .i32⟩
  | 2 => ⟨S1024x20, .i32⟩
  | 3 => ⟨S1024x20, .i32⟩
  | 4 => ⟨S_, .i32⟩
  | 5 => ⟨S1024x20, .i32⟩
  | 6 => ⟨S1024x20, .i32⟩
  | 7 => ⟨S_, .i32⟩
  | 8 => ⟨S1024x20, .i32⟩
  | 9 => ⟨S1024x20, .i32⟩
  | 10 => ⟨S1024x20, .i32⟩
  | 11 => ⟨S1024x20, .i32⟩
  | 12 => ⟨S1024x20, .i32⟩
  | 13 => ⟨S_, .i32⟩
  | 14 => ⟨S1024x20, .i32⟩
  | 15 => ⟨S1024x20, .i32⟩
  | 16 => ⟨S_, .i32⟩
  | 17 => ⟨S1024x20, .i32⟩
  | 18 => ⟨S1024x20, .i32⟩
  | 19 => ⟨S1024x20, .i32⟩
  | 20 => ⟨S1024x20, .i32⟩
  | 21 => ⟨S1024x20, .i32⟩
  | 22 => ⟨S1024x20, .i32⟩
  | 23 => ⟨S1024x20, .i32⟩
  | 24 => ⟨S1024x20, .i32⟩
  | 25 => ⟨S_, .i32⟩
  | 26 => ⟨S1024x20, .i32⟩
  | 27 => ⟨S1024x20, .i32⟩
  | 28 => ⟨S1024x20, .i32⟩
  | 29 => ⟨S_, .i32⟩
  | 30 => ⟨S1024x20, .i32⟩
  | 31 => ⟨S1024x20, .i32⟩
  | 32 => ⟨S_, .i32⟩
  | 33 => ⟨S1024x20, .i32⟩
  | 34 => ⟨S1024x20, .i32⟩
  | 35 => ⟨S1024x20, .i32⟩
  | 36 => ⟨S1024x20, .i32⟩
  | 37 => ⟨S1024x20, .i32⟩
  | 38 => ⟨S_, .i32⟩
  | 39 => ⟨S1024x20, .i32⟩
  | 40 => ⟨S1024x20, .i32⟩
  | 41 => ⟨S_, .i32⟩
  | 42 => ⟨S1024x20, .i32⟩
  | 43 => ⟨S1024x20, .i32⟩
  | 44 => ⟨S1024x20, .i32⟩
  | 45 => ⟨S1024x20, .i32⟩
  | 46 => ⟨S1024x20, .i32⟩
  | 47 => ⟨S_, .i32⟩
  | 48 => ⟨S1024x20, .i32⟩
  | 49 => ⟨S1024x20, .i32⟩
  | 50 => ⟨S_, .i32⟩
  | 51 => ⟨S1024x20, .i32⟩
  | 52 => ⟨S1024x20, .i32⟩
  | 53 => ⟨S1024x20, .i32⟩
  | 54 => ⟨S1024x20, .i32⟩
  | 55 => ⟨S1024x20, .i32⟩
  | 56 => ⟨S_, .i32⟩
  | 57 => ⟨S1024x20, .i32⟩
  | 58 => ⟨S1024x20, .i32⟩
  | 59 => ⟨S_, .i32⟩
  | 60 => ⟨S1024x20, .i32⟩
  | 61 => ⟨S1024x20, .i32⟩
  | 62 => ⟨S1024x20, .i32⟩
  | 63 => ⟨S1024x20, .i32⟩
  | 64 => ⟨S1024x20, .i32⟩
  | 65 => ⟨S1024x20, .i32⟩
  | 66 => ⟨S1024x20, .i32⟩
  | 67 => ⟨S1024x20, .i32⟩
  | 68 => ⟨S_, .i32⟩
  | 69 => ⟨S1024x20, .i32⟩
  | 70 => ⟨S1024x20, .i32⟩
  | 71 => ⟨S1024x20, .i32⟩
  | 72 => ⟨S_, .i32⟩
  | 73 => ⟨S1024x20, .i32⟩
  | 74 => ⟨S1024x20, .i32⟩
  | 75 => ⟨S_, .i32⟩
  | 76 => ⟨S1024x20, .i32⟩
  | 77 => ⟨S1024x20, .i32⟩
  | 78 => ⟨S1024x20, .i32⟩
  | 79 => ⟨S1024x20, .i32⟩
  | 80 => ⟨S1024x20, .i32⟩
  | 81 => ⟨S_, .i32⟩
  | 82 => ⟨S1024x20, .i32⟩
  | 83 => ⟨S1024x20, .i32⟩
  | 84 => ⟨S_, .i32⟩
  | 85 => ⟨S1024x20, .i32⟩
  | 86 => ⟨S1024x20, .i32⟩
  | 87 => ⟨S1024x20, .i32⟩
  | 88 => ⟨S1024x20, .i32⟩
  | 89 => ⟨S1024x20, .i32⟩
  | 90 => ⟨S_, .i32⟩
  | 91 => ⟨S1024x20, .i32⟩
  | 92 => ⟨S1024x20, .i32⟩
  | 93 => ⟨S_, .i32⟩
  | 94 => ⟨S1024x20, .i32⟩
  | 95 => ⟨S1024x20, .i32⟩
  | 96 => ⟨S1024x20, .i32⟩
  | 97 => ⟨S1024x20, .i32⟩
  | 98 => ⟨S1024x20, .i32⟩
  | 99 => ⟨S_, .i32⟩
  | 100 => ⟨S1024x20, .i32⟩
  | 101 => ⟨S1024x20, .i32⟩
  | 102 => ⟨S_, .i32⟩
  | 103 => ⟨S1024x20, .i32⟩
  | 104 => ⟨S1024x20, .i32⟩
  | 105 => ⟨S1024x20, .i32⟩
  | 106 => ⟨S1024x20, .i32⟩
  | 107 => ⟨S1024x20, .i32⟩
  | 108 => ⟨S1024x20, .i32⟩
  | 109 => ⟨S1024x20, .i32⟩
  | 110 => ⟨S1024x20, .i32⟩
  | 111 => ⟨S_, .i32⟩
  | 112 => ⟨S1024x20, .i32⟩
  | 113 => ⟨S1024x20, .i32⟩
  | 114 => ⟨S1024x20, .i32⟩
  | 115 => ⟨S1, .i32⟩
  | 116 => ⟨S1, .i32⟩
  | 117 => ⟨S1, .i1⟩
  | 118 => ⟨S_, .i32⟩
  | 119 => ⟨S1, .i32⟩
  | 120 => ⟨S1, .i32⟩
  | 121 => ⟨S1, .i1⟩
  | 122 => ⟨S1, .i1⟩
  | 123 => ⟨S1, .i1⟩
  | 124 => ⟨S_, .i32⟩
  | 125 => ⟨S1, .i32⟩
  | 126 => ⟨S1, .i32⟩
  | 127 => ⟨S1, .i32⟩
  | _ => ⟨S1024x2048, .f32⟩

abbrev hbmTy0_8 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1x1, .i32⟩
  | 6 => ⟨S1024x20, .i32⟩
  | 7 => ⟨S1024x20, .i32⟩
  | 8 => ⟨S1x1, .i32⟩
  | 9 => ⟨S1024x20, .i32⟩
  | 10 => ⟨S1024x20, .i32⟩
  | 11 => ⟨S1x1, .i32⟩
  | 12 => ⟨S1024x20, .i32⟩
  | 13 => ⟨S1024x20, .i32⟩
  | 14 => ⟨S1024x20, .i32⟩
  | 15 => ⟨S1x1, .i32⟩
  | 16 => ⟨S1024x20, .i32⟩
  | 17 => ⟨S1024x20, .i32⟩
  | 18 => ⟨S1024x20, .i32⟩
  | 19 => ⟨S1x1, .i32⟩
  | 20 => ⟨S1024x20, .i32⟩
  | 21 => ⟨S1024x20, .i32⟩
  | 22 => ⟨S1024x1, .i32⟩
  | 23 => ⟨S_, .i32⟩
  | 24 => ⟨S1024x1, .i32⟩
  | 25 => ⟨S1024x21, .i32⟩
  | 26 => ⟨S1024x21x1, .i32⟩
  | 27 => ⟨S1x1x1000, .i32⟩
  | 28 => ⟨S1024x21x1000, .i32⟩
  | 29 => ⟨S1024x21x1000, .i32⟩
  | 30 => ⟨S1024x21x1000, .i1⟩
  | 31 => ⟨S1024x21x1000, .f32⟩
  | _ => ⟨S1024x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_c_0 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_call0_v0 : Ref sig .tc := ⟨.hbm, 33, rfl⟩
abbrev main_call0_call0_c : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_c_0 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_c_1 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_call0_v12 : Ref sig .tc := ⟨.hbm, 48, rfl⟩
abbrev main_call0_call0_v13 : Ref sig .tc := ⟨.hbm, 49, rfl⟩
abbrev main_call0_call0_c_2 : Ref sig .tc := ⟨.hbm, 50, rfl⟩
abbrev main_call0_call0_v14 : Ref sig .tc := ⟨.hbm, 51, rfl⟩
abbrev main_call0_call0_v15 : Ref sig .tc := ⟨.hbm, 52, rfl⟩
abbrev main_call0_call0_c_3 : Ref sig .tc := ⟨.hbm, 53, rfl⟩
abbrev main_call0_call0_v16 : Ref sig .tc := ⟨.hbm, 54, rfl⟩
abbrev main_call0_call0_v17 : Ref sig .tc := ⟨.hbm, 55, rfl⟩
abbrev main_call0_call0_v18 : Ref sig .tc := ⟨.hbm, 56, rfl⟩
abbrev main_call0_call0_v19 : Ref sig .tc := ⟨.hbm, 57, rfl⟩
abbrev main_call0_call0_v20 : Ref sig .tc := ⟨.hbm, 58, rfl⟩
abbrev main_call0_call0_c_4 : Ref sig .tc := ⟨.hbm, 59, rfl⟩
abbrev main_call0_call0_v21 : Ref sig .tc := ⟨.hbm, 60, rfl⟩
abbrev main_call0_call0_v22 : Ref sig .tc := ⟨.hbm, 61, rfl⟩
abbrev main_call0_call0_c_5 : Ref sig .tc := ⟨.hbm, 62, rfl⟩
abbrev main_call0_call0_v23 : Ref sig .tc := ⟨.hbm, 63, rfl⟩
abbrev main_call0_call0_v24 : Ref sig .tc := ⟨.hbm, 64, rfl⟩
abbrev main_call0_call0_v25 : Ref sig .tc := ⟨.hbm, 65, rfl⟩
abbrev main_call0_call0_v26 : Ref sig .tc := ⟨.hbm, 66, rfl⟩
abbrev main_call0_call0_v27 : Ref sig .tc := ⟨.hbm, 67, rfl⟩
abbrev main_call0_call0_c_6 : Ref sig .tc := ⟨.hbm, 68, rfl⟩
abbrev main_call0_call0_v28 : Ref sig .tc := ⟨.hbm, 69, rfl⟩
abbrev main_call0_call0_v29 : Ref sig .tc := ⟨.hbm, 70, rfl⟩
abbrev main_call0_call0_c_7 : Ref sig .tc := ⟨.hbm, 71, rfl⟩
abbrev main_call0_call0_v30 : Ref sig .tc := ⟨.hbm, 72, rfl⟩
abbrev main_call0_call0_v31 : Ref sig .tc := ⟨.hbm, 73, rfl⟩
abbrev main_call0_call0_v32 : Ref sig .tc := ⟨.hbm, 74, rfl⟩
abbrev main_call0_call0_v33 : Ref sig .tc := ⟨.hbm, 75, rfl⟩
abbrev main_call0_call0_v34 : Ref sig .tc := ⟨.hbm, 76, rfl⟩
abbrev main_call0_call0_v35 : Ref sig .tc := ⟨.hbm, 77, rfl⟩
abbrev main_call0_call0_v36 : Ref sig .tc := ⟨.hbm, 78, rfl⟩
abbrev main_call0_call0_v37 : Ref sig .tc := ⟨.hbm, 79, rfl⟩
abbrev main_call0_call0_c_8 : Ref sig .tc := ⟨.hbm, 80, rfl⟩
abbrev main_call0_call0_v38 : Ref sig .tc := ⟨.hbm, 81, rfl⟩
abbrev main_call0_call0_v39 : Ref sig .tc := ⟨.hbm, 82, rfl⟩
abbrev main_call0_call0_v40 : Ref sig .tc := ⟨.hbm, 83, rfl⟩
abbrev main_call0_call0_c_9 : Ref sig .tc := ⟨.hbm, 84, rfl⟩
abbrev main_call0_call0_v41 : Ref sig .tc := ⟨.hbm, 85, rfl⟩
abbrev main_call0_call0_v42 : Ref sig .tc := ⟨.hbm, 86, rfl⟩
abbrev main_call0_call0_c_10 : Ref sig .tc := ⟨.hbm, 87, rfl⟩
abbrev main_call0_call0_v43 : Ref sig .tc := ⟨.hbm, 88, rfl⟩
abbrev main_call0_call0_v44 : Ref sig .tc := ⟨.hbm, 89, rfl⟩
abbrev main_call0_call0_v45 : Ref sig .tc := ⟨.hbm, 90, rfl⟩
abbrev main_call0_call0_v46 : Ref sig .tc := ⟨.hbm, 91, rfl⟩
abbrev main_call0_call0_v47 : Ref sig .tc := ⟨.hbm, 92, rfl⟩
abbrev main_call0_call0_c_11 : Ref sig .tc := ⟨.hbm, 93, rfl⟩
abbrev main_call0_call0_v48 : Ref sig .tc := ⟨.hbm, 94, rfl⟩
abbrev main_call0_call0_v49 : Ref sig .tc := ⟨.hbm, 95, rfl⟩
abbrev main_call0_call0_c_12 : Ref sig .tc := ⟨.hbm, 96, rfl⟩
abbrev main_call0_call0_v50 : Ref sig .tc := ⟨.hbm, 97, rfl⟩
abbrev main_call0_call0_v51 : Ref sig .tc := ⟨.hbm, 98, rfl⟩
abbrev main_call0_call0_v52 : Ref sig .tc := ⟨.hbm, 99, rfl⟩
abbrev main_call0_call0_v53 : Ref sig .tc := ⟨.hbm, 100, rfl⟩
abbrev main_call0_call0_v54 : Ref sig .tc := ⟨.hbm, 101, rfl⟩
abbrev main_call0_call0_c_13 : Ref sig .tc := ⟨.hbm, 102, rfl⟩
abbrev main_call0_call0_v55 : Ref sig .tc := ⟨.hbm, 103, rfl⟩
abbrev main_call0_call0_v56 : Ref sig .tc := ⟨.hbm, 104, rfl⟩
abbrev main_call0_call0_c_14 : Ref sig .tc := ⟨.hbm, 105, rfl⟩
abbrev main_call0_call0_v57 : Ref sig .tc := ⟨.hbm, 106, rfl⟩
abbrev main_call0_call0_v58 : Ref sig .tc := ⟨.hbm, 107, rfl⟩
abbrev main_call0_call0_v59 : Ref sig .tc := ⟨.hbm, 108, rfl⟩
abbrev main_call0_call0_v60 : Ref sig .tc := ⟨.hbm, 109, rfl⟩
abbrev main_call0_call0_v61 : Ref sig .tc := ⟨.hbm, 110, rfl⟩
abbrev main_call0_call0_c_15 : Ref sig .tc := ⟨.hbm, 111, rfl⟩
abbrev main_call0_call0_v62 : Ref sig .tc := ⟨.hbm, 112, rfl⟩
abbrev main_call0_call0_v63 : Ref sig .tc := ⟨.hbm, 113, rfl⟩
abbrev main_call0_call0_c_16 : Ref sig .tc := ⟨.hbm, 114, rfl⟩
abbrev main_call0_call0_v64 : Ref sig .tc := ⟨.hbm, 115, rfl⟩
abbrev main_call0_call0_v65 : Ref sig .tc := ⟨.hbm, 116, rfl⟩
abbrev main_call0_call0_v66 : Ref sig .tc := ⟨.hbm, 117, rfl⟩
abbrev main_call0_call0_v67 : Ref sig .tc := ⟨.hbm, 118, rfl⟩
abbrev main_call0_call0_v68 : Ref sig .tc := ⟨.hbm, 119, rfl⟩
abbrev main_call0_call0_v69 : Ref sig .tc := ⟨.hbm, 120, rfl⟩
abbrev main_call0_call0_v70 : Ref sig .tc := ⟨.hbm, 121, rfl⟩
abbrev main_call0_call0_v71 : Ref sig .tc := ⟨.hbm, 122, rfl⟩
abbrev main_call0_call0_c_17 : Ref sig .tc := ⟨.hbm, 123, rfl⟩
abbrev main_call0_call0_v72 : Ref sig .tc := ⟨.hbm, 124, rfl⟩
abbrev main_call0_call0_v73 : Ref sig .tc := ⟨.hbm, 125, rfl⟩
abbrev main_call0_call0_v74 : Ref sig .tc := ⟨.hbm, 126, rfl⟩
abbrev main_call0_call0_c_18 : Ref sig .tc := ⟨.hbm, 127, rfl⟩
abbrev main_call0_call0_v75 : Ref sig .tc := ⟨.hbm, 128, rfl⟩
abbrev main_call0_call0_v76 : Ref sig .tc := ⟨.hbm, 129, rfl⟩
abbrev main_call0_call0_c_19 : Ref sig .tc := ⟨.hbm, 130, rfl⟩
abbrev main_call0_call0_v77 : Ref sig .tc := ⟨.hbm, 131, rfl⟩
abbrev main_call0_call0_v78 : Ref sig .tc := ⟨.hbm, 132, rfl⟩
abbrev main_call0_call0_v79 : Ref sig .tc := ⟨.hbm, 133, rfl⟩
abbrev main_call0_call0_v80 : Ref sig .tc := ⟨.hbm, 134, rfl⟩
abbrev main_call0_call0_v81 : Ref sig .tc := ⟨.hbm, 135, rfl⟩
abbrev main_call0_call0_c_20 : Ref sig .tc := ⟨.hbm, 136, rfl⟩
abbrev main_call0_call0_v82 : Ref sig .tc := ⟨.hbm, 137, rfl⟩
abbrev main_call0_call0_v83 : Ref sig .tc := ⟨.hbm, 138, rfl⟩
abbrev main_call0_call0_c_21 : Ref sig .tc := ⟨.hbm, 139, rfl⟩
abbrev main_call0_call0_v84 : Ref sig .tc := ⟨.hbm, 140, rfl⟩
abbrev main_call0_call0_v85 : Ref sig .tc := ⟨.hbm, 141, rfl⟩
abbrev main_call0_call0_v86 : Ref sig .tc := ⟨.hbm, 142, rfl⟩
abbrev main_call0_call0_v87 : Ref sig .tc := ⟨.hbm, 143, rfl⟩
abbrev main_call0_call0_v88 : Ref sig .tc := ⟨.hbm, 144, rfl⟩
abbrev main_call0_call0_c_22 : Ref sig .tc := ⟨.hbm, 145, rfl⟩
abbrev main_call0_call0_v89 : Ref sig .tc := ⟨.hbm, 146, rfl⟩
abbrev main_call0_call0_v90 : Ref sig .tc := ⟨.hbm, 147, rfl⟩
abbrev main_call0_call0_c_23 : Ref sig .tc := ⟨.hbm, 148, rfl⟩
abbrev main_call0_call0_v91 : Ref sig .tc := ⟨.hbm, 149, rfl⟩
abbrev main_call0_call0_v92 : Ref sig .tc := ⟨.hbm, 150, rfl⟩
abbrev main_call0_call0_v93 : Ref sig .tc := ⟨.hbm, 151, rfl⟩
abbrev main_call0_call0_v94 : Ref sig .tc := ⟨.hbm, 152, rfl⟩
abbrev main_call0_call0_v95 : Ref sig .tc := ⟨.hbm, 153, rfl⟩
abbrev main_call0_call0_c_24 : Ref sig .tc := ⟨.hbm, 154, rfl⟩
abbrev main_call0_call0_v96 : Ref sig .tc := ⟨.hbm, 155, rfl⟩
abbrev main_call0_call0_v97 : Ref sig .tc := ⟨.hbm, 156, rfl⟩
abbrev main_call0_call0_c_25 : Ref sig .tc := ⟨.hbm, 157, rfl⟩
abbrev main_call0_call0_v98 : Ref sig .tc := ⟨.hbm, 158, rfl⟩
abbrev main_call0_call0_v99 : Ref sig .tc := ⟨.hbm, 159, rfl⟩
abbrev main_call0_call0_v100 : Ref sig .tc := ⟨.hbm, 160, rfl⟩
abbrev main_call0_call0_v101 : Ref sig .tc := ⟨.hbm, 161, rfl⟩
abbrev main_call0_call0_v102 : Ref sig .tc := ⟨.hbm, 162, rfl⟩
abbrev main_call0_call0_v103 : Ref sig .tc := ⟨.hbm, 163, rfl⟩
abbrev main_call0_call0_v104 : Ref sig .tc := ⟨.hbm, 164, rfl⟩
abbrev main_call0_call0_v105 : Ref sig .tc := ⟨.hbm, 165, rfl⟩
abbrev main_call0_call0_c_26 : Ref sig .tc := ⟨.hbm, 166, rfl⟩
abbrev main_call0_call0_v106 : Ref sig .tc := ⟨.hbm, 167, rfl⟩
abbrev main_call0_call0_v107 : Ref sig .tc := ⟨.hbm, 168, rfl⟩
abbrev main_call0_call0_v108 : Ref sig .tc := ⟨.hbm, 169, rfl⟩
abbrev main_call0_call0_c_27 : Ref sig .tc := ⟨.hbm, 170, rfl⟩
abbrev main_call0_call0_v109 : Ref sig .tc := ⟨.hbm, 171, rfl⟩
abbrev main_call0_call0_v110 : Ref sig .tc := ⟨.hbm, 172, rfl⟩
abbrev main_call0_call0_c_28 : Ref sig .tc := ⟨.hbm, 173, rfl⟩
abbrev main_call0_call0_v111 : Ref sig .tc := ⟨.hbm, 174, rfl⟩
abbrev main_call0_call0_v112 : Ref sig .tc := ⟨.hbm, 175, rfl⟩
abbrev main_call0_call0_v113 : Ref sig .tc := ⟨.hbm, 176, rfl⟩
abbrev main_call0_call0_v114 : Ref sig .tc := ⟨.hbm, 177, rfl⟩
abbrev main_call0_call0_v115 : Ref sig .tc := ⟨.hbm, 178, rfl⟩
abbrev main_call0_call0_c_29 : Ref sig .tc := ⟨.hbm, 179, rfl⟩
abbrev main_call0_call0_v116 : Ref sig .tc := ⟨.hbm, 180, rfl⟩
abbrev main_call0_call0_v117 : Ref sig .tc := ⟨.hbm, 181, rfl⟩
abbrev main_call0_call0_c_30 : Ref sig .tc := ⟨.hbm, 182, rfl⟩
abbrev main_call0_call0_v118 : Ref sig .tc := ⟨.hbm, 183, rfl⟩
abbrev main_call0_call0_v119 : Ref sig .tc := ⟨.hbm, 184, rfl⟩
abbrev main_call0_call0_v120 : Ref sig .tc := ⟨.hbm, 185, rfl⟩
abbrev main_call0_call0_v121 : Ref sig .tc := ⟨.hbm, 186, rfl⟩
abbrev main_call0_call0_v122 : Ref sig .tc := ⟨.hbm, 187, rfl⟩
abbrev main_call0_call0_c_31 : Ref sig .tc := ⟨.hbm, 188, rfl⟩
abbrev main_call0_call0_v123 : Ref sig .tc := ⟨.hbm, 189, rfl⟩
abbrev main_call0_call0_v124 : Ref sig .tc := ⟨.hbm, 190, rfl⟩
abbrev main_call0_call0_c_32 : Ref sig .tc := ⟨.hbm, 191, rfl⟩
abbrev main_call0_call0_v125 : Ref sig .tc := ⟨.hbm, 192, rfl⟩
abbrev main_call0_call0_v126 : Ref sig .tc := ⟨.hbm, 193, rfl⟩
abbrev main_call0_call0_v127 : Ref sig .tc := ⟨.hbm, 194, rfl⟩
abbrev main_call0_call0_v128 : Ref sig .tc := ⟨.hbm, 195, rfl⟩
abbrev main_call0_call0_v129 : Ref sig .tc := ⟨.hbm, 196, rfl⟩
abbrev main_call0_call0_c_33 : Ref sig .tc := ⟨.hbm, 197, rfl⟩
abbrev main_call0_call0_v130 : Ref sig .tc := ⟨.hbm, 198, rfl⟩
abbrev main_call0_call0_v131 : Ref sig .tc := ⟨.hbm, 199, rfl⟩
abbrev main_call0_call0_c_34 : Ref sig .tc := ⟨.hbm, 200, rfl⟩
abbrev main_call0_call0_v132 : Ref sig .tc := ⟨.hbm, 201, rfl⟩
abbrev main_call0_call0_v133 : Ref sig .tc := ⟨.hbm, 202, rfl⟩
abbrev main_call0_call0_v134 : Ref sig .tc := ⟨.hbm, 203, rfl⟩
abbrev main_call0_call0_v135 : Ref sig .tc := ⟨.hbm, 204, rfl⟩
abbrev main_call0_call0_v136 : Ref sig .tc := ⟨.hbm, 205, rfl⟩
abbrev main_call0_call0_v137 : Ref sig .tc := ⟨.hbm, 206, rfl⟩
abbrev main_call0_call0_v138 : Ref sig .tc := ⟨.hbm, 207, rfl⟩
abbrev main_call0_call0_v139 : Ref sig .tc := ⟨.hbm, 208, rfl⟩
abbrev main_call0_call0_c_35 : Ref sig .tc := ⟨.hbm, 209, rfl⟩
abbrev main_call0_call0_v140 : Ref sig .tc := ⟨.hbm, 210, rfl⟩
abbrev main_call0_call0_v141 : Ref sig .tc := ⟨.hbm, 211, rfl⟩
abbrev main_call0_call0_v142 : Ref sig .tc := ⟨.hbm, 212, rfl⟩
abbrev main_call0_call0_c_36 : Ref sig .tc := ⟨.hbm, 213, rfl⟩
abbrev main_call0_call0_v143 : Ref sig .tc := ⟨.hbm, 214, rfl⟩
abbrev main_call0_call0_v144 : Ref sig .tc := ⟨.hbm, 215, rfl⟩
abbrev main_call0_call0_c_37 : Ref sig .tc := ⟨.hbm, 216, rfl⟩
abbrev main_call0_call0_v145 : Ref sig .tc := ⟨.hbm, 217, rfl⟩
abbrev main_call0_call0_v146 : Ref sig .tc := ⟨.hbm, 218, rfl⟩
abbrev main_call0_call0_v147 : Ref sig .tc := ⟨.hbm, 219, rfl⟩
abbrev main_call0_call0_v148 : Ref sig .tc := ⟨.hbm, 220, rfl⟩
abbrev main_call0_call0_v149 : Ref sig .tc := ⟨.hbm, 221, rfl⟩
abbrev main_call0_call0_c_38 : Ref sig .tc := ⟨.hbm, 222, rfl⟩
abbrev main_call0_call0_v150 : Ref sig .tc := ⟨.hbm, 223, rfl⟩
abbrev main_call0_call0_v151 : Ref sig .tc := ⟨.hbm, 224, rfl⟩
abbrev main_call0_call0_c_39 : Ref sig .tc := ⟨.hbm, 225, rfl⟩
abbrev main_call0_call0_v152 : Ref sig .tc := ⟨.hbm, 226, rfl⟩
abbrev main_call0_call0_v153 : Ref sig .tc := ⟨.hbm, 227, rfl⟩
abbrev main_call0_call0_v154 : Ref sig .tc := ⟨.hbm, 228, rfl⟩
abbrev main_call0_call0_v155 : Ref sig .tc := ⟨.hbm, 229, rfl⟩
abbrev main_call0_call0_v156 : Ref sig .tc := ⟨.hbm, 230, rfl⟩
abbrev main_call0_call0_c_40 : Ref sig .tc := ⟨.hbm, 231, rfl⟩
abbrev main_call0_call0_v157 : Ref sig .tc := ⟨.hbm, 232, rfl⟩
abbrev main_call0_call0_v158 : Ref sig .tc := ⟨.hbm, 233, rfl⟩
abbrev main_call0_call0_c_41 : Ref sig .tc := ⟨.hbm, 234, rfl⟩
abbrev main_call0_call0_v159 : Ref sig .tc := ⟨.hbm, 235, rfl⟩
abbrev main_call0_call0_v160 : Ref sig .tc := ⟨.hbm, 236, rfl⟩
abbrev main_call0_call0_v161 : Ref sig .tc := ⟨.hbm, 237, rfl⟩
abbrev main_call0_call0_v162 : Ref sig .tc := ⟨.hbm, 238, rfl⟩
abbrev main_call0_call0_v163 : Ref sig .tc := ⟨.hbm, 239, rfl⟩
abbrev main_call0_call0_c_42 : Ref sig .tc := ⟨.hbm, 240, rfl⟩
abbrev main_call0_call0_v164 : Ref sig .tc := ⟨.hbm, 241, rfl⟩
abbrev main_call0_call0_v165 : Ref sig .tc := ⟨.hbm, 242, rfl⟩
abbrev main_call0_call0_c_43 : Ref sig .tc := ⟨.hbm, 243, rfl⟩
abbrev main_call0_call0_v166 : Ref sig .tc := ⟨.hbm, 244, rfl⟩
abbrev main_call0_call0_v167 : Ref sig .tc := ⟨.hbm, 245, rfl⟩
abbrev main_call0_call0_v168 : Ref sig .tc := ⟨.hbm, 246, rfl⟩
abbrev main_call0_call0_v169 : Ref sig .tc := ⟨.hbm, 247, rfl⟩
abbrev main_call0_call0_v170 : Ref sig .tc := ⟨.hbm, 248, rfl⟩
abbrev main_call0_v13_0 : Ref sig .tc := ⟨.hbm, 249, rfl⟩
abbrev main_call0_call0_v172 : Ref sig .tc := ⟨.hbm, 250, rfl⟩
abbrev main_call0_call0_v173 : Ref sig .tc := ⟨.hbm, 251, rfl⟩
abbrev main_call0_call0_c_44 : Ref sig .tc := ⟨.hbm, 252, rfl⟩
abbrev main_call0_call0_v174 : Ref sig .tc := ⟨.hbm, 253, rfl⟩
abbrev main_call0_v13_1 : Ref sig .tc := ⟨.hbm, 254, rfl⟩
abbrev main_v12 : Ref sig .tc := ⟨.hbm, 255, rfl⟩
abbrev main_c_3 : Ref sig .tc := ⟨.hbm, 256, rfl⟩
abbrev main_c_4 : Ref sig .tc := ⟨.hbm, 257, rfl⟩
abbrev main_call1_c : Ref sig .tc := ⟨.hbm, 258, rfl⟩
abbrev main_call1_c_0 : Ref sig .tc := ⟨.hbm, 259, rfl⟩
abbrev main_call1_c_1 : Ref sig .tc := ⟨.hbm, 260, rfl⟩
abbrev main_call1_call0_v0 : Ref sig .tc := ⟨.hbm, 261, rfl⟩
abbrev main_call1_v0 : Ref sig .tc := ⟨.hbm, 262, rfl⟩
abbrev main_call1_v1 : Ref sig .tc := ⟨.hbm, 263, rfl⟩
abbrev main_call1_c_2 : Ref sig .tc := ⟨.hbm, 264, rfl⟩
abbrev main_call1_c_3 : Ref sig .tc := ⟨.hbm, 265, rfl⟩
abbrev main_call1_call1_v0 : Ref sig .tc := ⟨.hbm, 266, rfl⟩
abbrev main_call1_v2 : Ref sig .tc := ⟨.hbm, 267, rfl⟩
abbrev main_call1_v3 : Ref sig .tc := ⟨.hbm, 268, rfl⟩
abbrev main_call1_c_4 : Ref sig .tc := ⟨.hbm, 269, rfl⟩
abbrev main_call1_c_5 : Ref sig .tc := ⟨.hbm, 270, rfl⟩
abbrev main_call1_call2_v0 : Ref sig .tc := ⟨.hbm, 271, rfl⟩
abbrev main_call1_v4 : Ref sig .tc := ⟨.hbm, 272, rfl⟩
abbrev main_call1_v5 : Ref sig .tc := ⟨.hbm, 273, rfl⟩
abbrev main_call1_v6 : Ref sig .tc := ⟨.hbm, 274, rfl⟩
abbrev main_call1_v7 : Ref sig .tc := ⟨.hbm, 275, rfl⟩
abbrev main_call1_call3_v0 : Ref sig .tc := ⟨.hbm, 276, rfl⟩
abbrev main_call1_call3_v1 : Ref sig .tc := ⟨.hbm, 277, rfl⟩
abbrev main_call1_call3_v2 : Ref sig .tc := ⟨.hbm, 278, rfl⟩
abbrev main_call1_call3_v3 : Ref sig .tc := ⟨.hbm, 279, rfl⟩
abbrev main_call1_call3_v4 : Ref sig .tc := ⟨.hbm, 280, rfl⟩
abbrev main_call1_call3_c : Ref sig .tc := ⟨.hbm, 281, rfl⟩
abbrev main_call1_call3_v5 : Ref sig .tc := ⟨.hbm, 282, rfl⟩
abbrev main_call1_call3_v6 : Ref sig .tc := ⟨.hbm, 283, rfl⟩
abbrev main_call1_call3_c_0 : Ref sig .tc := ⟨.hbm, 284, rfl⟩
abbrev main_call1_call3_v7 : Ref sig .tc := ⟨.hbm, 285, rfl⟩
abbrev main_call1_call3_v8 : Ref sig .tc := ⟨.hbm, 286, rfl⟩
abbrev main_call1_call3_v9 : Ref sig .tc := ⟨.hbm, 287, rfl⟩
abbrev main_call1_call3_v10 : Ref sig .tc := ⟨.hbm, 288, rfl⟩
abbrev main_call1_call3_v11 : Ref sig .tc := ⟨.hbm, 289, rfl⟩
abbrev main_call1_call3_v12 : Ref sig .tc := ⟨.hbm, 290, rfl⟩
abbrev main_call1_call3_v13 : Ref sig .tc := ⟨.hbm, 291, rfl⟩
abbrev main_call1_call3_v14 : Ref sig .tc := ⟨.hbm, 292, rfl⟩
abbrev main_call1_call3_call0_v0 : Ref sig .tc := ⟨.hbm, 293, rfl⟩
abbrev main_call1_call3_call0_c : Ref sig .tc := ⟨.hbm, 294, rfl⟩
abbrev main_call1_call3_call0_v1 : Ref sig .tc := ⟨.hbm, 295, rfl⟩
abbrev main_call1_call3_call0_v2 : Ref sig .tc := ⟨.hbm, 296, rfl⟩
abbrev main_call1_call3_call0_v3 : Ref sig .tc := ⟨.hbm, 297, rfl⟩
abbrev main_call1_call3_call0_v4 : Ref sig .tc := ⟨.hbm, 298, rfl⟩
abbrev main_call1_call3_call0_v5 : Ref sig .tc := ⟨.hbm, 299, rfl⟩
abbrev main_call1_call3_call0_v6 : Ref sig .tc := ⟨.hbm, 300, rfl⟩
abbrev main_call1_call3_call0_v7 : Ref sig .tc := ⟨.hbm, 301, rfl⟩
abbrev main_call1_call3_call0_v8 : Ref sig .tc := ⟨.hbm, 302, rfl⟩
abbrev main_call1_call3_call0_v9 : Ref sig .tc := ⟨.hbm, 303, rfl⟩
abbrev main_call1_call3_call0_c_0 : Ref sig .tc := ⟨.hbm, 304, rfl⟩
abbrev main_call1_call3_call0_v10 : Ref sig .tc := ⟨.hbm, 305, rfl⟩
abbrev main_call1_call3_call0_v11 : Ref sig .tc := ⟨.hbm, 306, rfl⟩
abbrev main_call1_call3_call0_c_1 : Ref sig .tc := ⟨.hbm, 307, rfl⟩
abbrev main_call1_call3_call0_v12 : Ref sig .tc := ⟨.hbm, 308, rfl⟩
abbrev main_call1_call3_call0_v13 : Ref sig .tc := ⟨.hbm, 309, rfl⟩
abbrev main_call1_call3_call0_v14 : Ref sig .tc := ⟨.hbm, 310, rfl⟩
abbrev main_call1_call3_call0_v15 : Ref sig .tc := ⟨.hbm, 311, rfl⟩
abbrev main_call1_call3_call0_v16 : Ref sig .tc := ⟨.hbm, 312, rfl⟩
abbrev main_call1_call3_call0_c_2 : Ref sig .tc := ⟨.hbm, 313, rfl⟩
abbrev main_call1_call3_call0_v17 : Ref sig .tc := ⟨.hbm, 314, rfl⟩
abbrev main_call1_call3_call0_v18 : Ref sig .tc := ⟨.hbm, 315, rfl⟩
abbrev main_call1_call3_call0_c_3 : Ref sig .tc := ⟨.hbm, 316, rfl⟩
abbrev main_call1_call3_call0_v19 : Ref sig .tc := ⟨.hbm, 317, rfl⟩
abbrev main_call1_call3_call0_v20 : Ref sig .tc := ⟨.hbm, 318, rfl⟩
abbrev main_call1_call3_call0_v21 : Ref sig .tc := ⟨.hbm, 319, rfl⟩
abbrev main_call1_call3_call0_v22 : Ref sig .tc := ⟨.hbm, 320, rfl⟩
abbrev main_call1_call3_call0_v23 : Ref sig .tc := ⟨.hbm, 321, rfl⟩
abbrev main_call1_call3_call0_c_4 : Ref sig .tc := ⟨.hbm, 322, rfl⟩
abbrev main_call1_call3_call0_v24 : Ref sig .tc := ⟨.hbm, 323, rfl⟩
abbrev main_call1_call3_call0_v25 : Ref sig .tc := ⟨.hbm, 324, rfl⟩
abbrev main_call1_call3_call0_c_5 : Ref sig .tc := ⟨.hbm, 325, rfl⟩
abbrev main_call1_call3_call0_v26 : Ref sig .tc := ⟨.hbm, 326, rfl⟩
abbrev main_call1_call3_call0_v27 : Ref sig .tc := ⟨.hbm, 327, rfl⟩
abbrev main_call1_call3_call0_v28 : Ref sig .tc := ⟨.hbm, 328, rfl⟩
abbrev main_call1_call3_call0_v29 : Ref sig .tc := ⟨.hbm, 329, rfl⟩
abbrev main_call1_call3_call0_v30 : Ref sig .tc := ⟨.hbm, 330, rfl⟩
abbrev main_call1_call3_call0_c_6 : Ref sig .tc := ⟨.hbm, 331, rfl⟩
abbrev main_call1_call3_call0_v31 : Ref sig .tc := ⟨.hbm, 332, rfl⟩
abbrev main_call1_call3_call0_v32 : Ref sig .tc := ⟨.hbm, 333, rfl⟩
abbrev main_call1_call3_call0_c_7 : Ref sig .tc := ⟨.hbm, 334, rfl⟩
abbrev main_call1_call3_call0_v33 : Ref sig .tc := ⟨.hbm, 335, rfl⟩
abbrev main_call1_call3_call0_v34 : Ref sig .tc := ⟨.hbm, 336, rfl⟩
abbrev main_call1_call3_call0_v35 : Ref sig .tc := ⟨.hbm, 337, rfl⟩
abbrev main_call1_call3_call0_v36 : Ref sig .tc := ⟨.hbm, 338, rfl⟩
abbrev main_call1_call3_call0_v37 : Ref sig .tc := ⟨.hbm, 339, rfl⟩
abbrev main_call1_call3_call0_v38 : Ref sig .tc := ⟨.hbm, 340, rfl⟩
abbrev main_call1_call3_call0_v39 : Ref sig .tc := ⟨.hbm, 341, rfl⟩
abbrev main_call1_call3_call0_v40 : Ref sig .tc := ⟨.hbm, 342, rfl⟩
abbrev main_call1_call3_call0_c_8 : Ref sig .tc := ⟨.hbm, 343, rfl⟩
abbrev main_call1_call3_call0_v41 : Ref sig .tc := ⟨.hbm, 344, rfl⟩
abbrev main_call1_call3_call0_v42 : Ref sig .tc := ⟨.hbm, 345, rfl⟩
abbrev main_call1_call3_call0_v43 : Ref sig .tc := ⟨.hbm, 346, rfl⟩
abbrev main_call1_call3_call0_c_9 : Ref sig .tc := ⟨.hbm, 347, rfl⟩
abbrev main_call1_call3_call0_v44 : Ref sig .tc := ⟨.hbm, 348, rfl⟩
abbrev main_call1_call3_call0_v45 : Ref sig .tc := ⟨.hbm, 349, rfl⟩
abbrev main_call1_call3_call0_c_10 : Ref sig .tc := ⟨.hbm, 350, rfl⟩
abbrev main_call1_call3_call0_v46 : Ref sig .tc := ⟨.hbm, 351, rfl⟩
abbrev main_call1_call3_call0_v47 : Ref sig .tc := ⟨.hbm, 352, rfl⟩
abbrev main_call1_call3_call0_v48 : Ref sig .tc := ⟨.hbm, 353, rfl⟩
abbrev main_call1_call3_call0_v49 : Ref sig .tc := ⟨.hbm, 354, rfl⟩
abbrev main_call1_call3_call0_v50 : Ref sig .tc := ⟨.hbm, 355, rfl⟩
abbrev main_call1_call3_call0_c_11 : Ref sig .tc := ⟨.hbm, 356, rfl⟩
abbrev main_call1_call3_call0_v51 : Ref sig .tc := ⟨.hbm, 357, rfl⟩
abbrev main_call1_call3_call0_v52 : Ref sig .tc := ⟨.hbm, 358, rfl⟩
abbrev main_call1_call3_call0_c_12 : Ref sig .tc := ⟨.hbm, 359, rfl⟩
abbrev main_call1_call3_call0_v53 : Ref sig .tc := ⟨.hbm, 360, rfl⟩
abbrev main_call1_call3_call0_v54 : Ref sig .tc := ⟨.hbm, 361, rfl⟩
abbrev main_call1_call3_call0_v55 : Ref sig .tc := ⟨.hbm, 362, rfl⟩
abbrev main_call1_call3_call0_v56 : Ref sig .tc := ⟨.hbm, 363, rfl⟩
abbrev main_call1_call3_call0_v57 : Ref sig .tc := ⟨.hbm, 364, rfl⟩
abbrev main_call1_call3_call0_c_13 : Ref sig .tc := ⟨.hbm, 365, rfl⟩
abbrev main_call1_call3_call0_v58 : Ref sig .tc := ⟨.hbm, 366, rfl⟩
abbrev main_call1_call3_call0_v59 : Ref sig .tc := ⟨.hbm, 367, rfl⟩
abbrev main_call1_call3_call0_c_14 : Ref sig .tc := ⟨.hbm, 368, rfl⟩
abbrev main_call1_call3_call0_v60 : Ref sig .tc := ⟨.hbm, 369, rfl⟩
abbrev main_call1_call3_call0_v61 : Ref sig .tc := ⟨.hbm, 370, rfl⟩
abbrev main_call1_call3_call0_v62 : Ref sig .tc := ⟨.hbm, 371, rfl⟩
abbrev main_call1_call3_call0_v63 : Ref sig .tc := ⟨.hbm, 372, rfl⟩
abbrev main_call1_call3_call0_v64 : Ref sig .tc := ⟨.hbm, 373, rfl⟩
abbrev main_call1_call3_call0_c_15 : Ref sig .tc := ⟨.hbm, 374, rfl⟩
abbrev main_call1_call3_call0_v65 : Ref sig .tc := ⟨.hbm, 375, rfl⟩
abbrev main_call1_call3_call0_v66 : Ref sig .tc := ⟨.hbm, 376, rfl⟩
abbrev main_call1_call3_call0_c_16 : Ref sig .tc := ⟨.hbm, 377, rfl⟩
abbrev main_call1_call3_call0_v67 : Ref sig .tc := ⟨.hbm, 378, rfl⟩
abbrev main_call1_call3_call0_v68 : Ref sig .tc := ⟨.hbm, 379, rfl⟩
abbrev main_call1_call3_call0_v69 : Ref sig .tc := ⟨.hbm, 380, rfl⟩
abbrev main_call1_call3_call0_v70 : Ref sig .tc := ⟨.hbm, 381, rfl⟩
abbrev main_call1_call3_call0_v71 : Ref sig .tc := ⟨.hbm, 382, rfl⟩
abbrev main_call1_call3_call0_v72 : Ref sig .tc := ⟨.hbm, 383, rfl⟩
abbrev main_call1_call3_call0_v73 : Ref sig .tc := ⟨.hbm, 384, rfl⟩
abbrev main_call1_call3_call0_v74 : Ref sig .tc := ⟨.hbm, 385, rfl⟩
abbrev main_call1_call3_call0_c_17 : Ref sig .tc := ⟨.hbm, 386, rfl⟩
abbrev main_call1_call3_call0_v75 : Ref sig .tc := ⟨.hbm, 387, rfl⟩
abbrev main_call1_call3_call0_v76 : Ref sig .tc := ⟨.hbm, 388, rfl⟩
abbrev main_call1_call3_call0_v77 : Ref sig .tc := ⟨.hbm, 389, rfl⟩
abbrev main_call1_call3_call0_c_18 : Ref sig .tc := ⟨.hbm, 390, rfl⟩
abbrev main_call1_call3_call0_v78 : Ref sig .tc := ⟨.hbm, 391, rfl⟩
abbrev main_call1_call3_call0_v79 : Ref sig .tc := ⟨.hbm, 392, rfl⟩
abbrev main_call1_call3_call0_c_19 : Ref sig .tc := ⟨.hbm, 393, rfl⟩
abbrev main_call1_call3_call0_v80 : Ref sig .tc := ⟨.hbm, 394, rfl⟩
abbrev main_call1_call3_call0_v81 : Ref sig .tc := ⟨.hbm, 395, rfl⟩
abbrev main_call1_call3_call0_v82 : Ref sig .tc := ⟨.hbm, 396, rfl⟩
abbrev main_call1_call3_call0_v83 : Ref sig .tc := ⟨.hbm, 397, rfl⟩
abbrev main_call1_call3_call0_v84 : Ref sig .tc := ⟨.hbm, 398, rfl⟩
abbrev main_call1_call3_call0_c_20 : Ref sig .tc := ⟨.hbm, 399, rfl⟩
abbrev main_call1_call3_call0_v85 : Ref sig .tc := ⟨.hbm, 400, rfl⟩
abbrev main_call1_call3_call0_v86 : Ref sig .tc := ⟨.hbm, 401, rfl⟩
abbrev main_call1_call3_call0_c_21 : Ref sig .tc := ⟨.hbm, 402, rfl⟩
abbrev main_call1_call3_call0_v87 : Ref sig .tc := ⟨.hbm, 403, rfl⟩
abbrev main_call1_call3_call0_v88 : Ref sig .tc := ⟨.hbm, 404, rfl⟩
abbrev main_call1_call3_call0_v89 : Ref sig .tc := ⟨.hbm, 405, rfl⟩
abbrev main_call1_call3_call0_v90 : Ref sig .tc := ⟨.hbm, 406, rfl⟩
abbrev main_call1_call3_call0_v91 : Ref sig .tc := ⟨.hbm, 407, rfl⟩
abbrev main_call1_call3_call0_c_22 : Ref sig .tc := ⟨.hbm, 408, rfl⟩
abbrev main_call1_call3_call0_v92 : Ref sig .tc := ⟨.hbm, 409, rfl⟩
abbrev main_call1_call3_call0_v93 : Ref sig .tc := ⟨.hbm, 410, rfl⟩
abbrev main_call1_call3_call0_c_23 : Ref sig .tc := ⟨.hbm, 411, rfl⟩
abbrev main_call1_call3_call0_v94 : Ref sig .tc := ⟨.hbm, 412, rfl⟩
abbrev main_call1_call3_call0_v95 : Ref sig .tc := ⟨.hbm, 413, rfl⟩
abbrev main_call1_call3_call0_v96 : Ref sig .tc := ⟨.hbm, 414, rfl⟩
abbrev main_call1_call3_call0_v97 : Ref sig .tc := ⟨.hbm, 415, rfl⟩
abbrev main_call1_call3_call0_v98 : Ref sig .tc := ⟨.hbm, 416, rfl⟩
abbrev main_call1_call3_call0_c_24 : Ref sig .tc := ⟨.hbm, 417, rfl⟩
abbrev main_call1_call3_call0_v99 : Ref sig .tc := ⟨.hbm, 418, rfl⟩
abbrev main_call1_call3_call0_v100 : Ref sig .tc := ⟨.hbm, 419, rfl⟩
abbrev main_call1_call3_call0_c_25 : Ref sig .tc := ⟨.hbm, 420, rfl⟩
abbrev main_call1_call3_call0_v101 : Ref sig .tc := ⟨.hbm, 421, rfl⟩
abbrev main_call1_call3_call0_v102 : Ref sig .tc := ⟨.hbm, 422, rfl⟩
abbrev main_call1_call3_call0_v103 : Ref sig .tc := ⟨.hbm, 423, rfl⟩
abbrev main_call1_call3_call0_v104 : Ref sig .tc := ⟨.hbm, 424, rfl⟩
abbrev main_call1_call3_call0_v105 : Ref sig .tc := ⟨.hbm, 425, rfl⟩
abbrev main_call1_call3_call0_v106 : Ref sig .tc := ⟨.hbm, 426, rfl⟩
abbrev main_call1_call3_call0_v107 : Ref sig .tc := ⟨.hbm, 427, rfl⟩
abbrev main_call1_call3_call0_v108 : Ref sig .tc := ⟨.hbm, 428, rfl⟩
abbrev main_call1_call3_call0_c_26 : Ref sig .tc := ⟨.hbm, 429, rfl⟩
abbrev main_call1_call3_call0_v109 : Ref sig .tc := ⟨.hbm, 430, rfl⟩
abbrev main_call1_call3_call0_v110 : Ref sig .tc := ⟨.hbm, 431, rfl⟩
abbrev main_call1_call3_call0_v111 : Ref sig .tc := ⟨.hbm, 432, rfl⟩
abbrev main_call1_call3_call0_c_27 : Ref sig .tc := ⟨.hbm, 433, rfl⟩
abbrev main_call1_call3_call0_v112 : Ref sig .tc := ⟨.hbm, 434, rfl⟩
abbrev main_call1_call3_call0_v113 : Ref sig .tc := ⟨.hbm, 435, rfl⟩
abbrev main_call1_call3_call0_c_28 : Ref sig .tc := ⟨.hbm, 436, rfl⟩
abbrev main_call1_call3_call0_v114 : Ref sig .tc := ⟨.hbm, 437, rfl⟩
abbrev main_call1_call3_call0_v115 : Ref sig .tc := ⟨.hbm, 438, rfl⟩
abbrev main_call1_call3_call0_v116 : Ref sig .tc := ⟨.hbm, 439, rfl⟩
abbrev main_call1_call3_call0_v117 : Ref sig .tc := ⟨.hbm, 440, rfl⟩
abbrev main_call1_call3_call0_v118 : Ref sig .tc := ⟨.hbm, 441, rfl⟩
abbrev main_call1_call3_call0_c_29 : Ref sig .tc := ⟨.hbm, 442, rfl⟩
abbrev main_call1_call3_call0_v119 : Ref sig .tc := ⟨.hbm, 443, rfl⟩
abbrev main_call1_call3_call0_v120 : Ref sig .tc := ⟨.hbm, 444, rfl⟩
abbrev main_call1_call3_call0_c_30 : Ref sig .tc := ⟨.hbm, 445, rfl⟩
abbrev main_call1_call3_call0_v121 : Ref sig .tc := ⟨.hbm, 446, rfl⟩
abbrev main_call1_call3_call0_v122 : Ref sig .tc := ⟨.hbm, 447, rfl⟩
abbrev main_call1_call3_call0_v123 : Ref sig .tc := ⟨.hbm, 448, rfl⟩
abbrev main_call1_call3_call0_v124 : Ref sig .tc := ⟨.hbm, 449, rfl⟩
abbrev main_call1_call3_call0_v125 : Ref sig .tc := ⟨.hbm, 450, rfl⟩
abbrev main_call1_call3_call0_c_31 : Ref sig .tc := ⟨.hbm, 451, rfl⟩
abbrev main_call1_call3_call0_v126 : Ref sig .tc := ⟨.hbm, 452, rfl⟩
abbrev main_call1_call3_call0_v127 : Ref sig .tc := ⟨.hbm, 453, rfl⟩
abbrev main_call1_call3_call0_c_32 : Ref sig .tc := ⟨.hbm, 454, rfl⟩
abbrev main_call1_call3_call0_v128 : Ref sig .tc := ⟨.hbm, 455, rfl⟩
abbrev main_call1_call3_call0_v129 : Ref sig .tc := ⟨.hbm, 456, rfl⟩
abbrev main_call1_call3_call0_v130 : Ref sig .tc := ⟨.hbm, 457, rfl⟩
abbrev main_call1_call3_call0_v131 : Ref sig .tc := ⟨.hbm, 458, rfl⟩
abbrev main_call1_call3_call0_v132 : Ref sig .tc := ⟨.hbm, 459, rfl⟩
abbrev main_call1_call3_call0_c_33 : Ref sig .tc := ⟨.hbm, 460, rfl⟩
abbrev main_call1_call3_call0_v133 : Ref sig .tc := ⟨.hbm, 461, rfl⟩
abbrev main_call1_call3_call0_v134 : Ref sig .tc := ⟨.hbm, 462, rfl⟩
abbrev main_call1_call3_call0_c_34 : Ref sig .tc := ⟨.hbm, 463, rfl⟩
abbrev main_call1_call3_call0_v135 : Ref sig .tc := ⟨.hbm, 464, rfl⟩
abbrev main_call1_call3_call0_v136 : Ref sig .tc := ⟨.hbm, 465, rfl⟩
abbrev main_call1_call3_call0_v137 : Ref sig .tc := ⟨.hbm, 466, rfl⟩
abbrev main_call1_call3_call0_v138 : Ref sig .tc := ⟨.hbm, 467, rfl⟩
abbrev main_call1_call3_call0_v139 : Ref sig .tc := ⟨.hbm, 468, rfl⟩
abbrev main_call1_call3_call0_v140 : Ref sig .tc := ⟨.hbm, 469, rfl⟩
abbrev main_call1_call3_call0_v141 : Ref sig .tc := ⟨.hbm, 470, rfl⟩
abbrev main_call1_call3_call0_v142 : Ref sig .tc := ⟨.hbm, 471, rfl⟩
abbrev main_call1_call3_call0_c_35 : Ref sig .tc := ⟨.hbm, 472, rfl⟩
abbrev main_call1_call3_call0_v143 : Ref sig .tc := ⟨.hbm, 473, rfl⟩
abbrev main_call1_call3_call0_v144 : Ref sig .tc := ⟨.hbm, 474, rfl⟩
abbrev main_call1_call3_call0_v145 : Ref sig .tc := ⟨.hbm, 475, rfl⟩
abbrev main_call1_call3_call0_c_36 : Ref sig .tc := ⟨.hbm, 476, rfl⟩
abbrev main_call1_call3_call0_v146 : Ref sig .tc := ⟨.hbm, 477, rfl⟩
abbrev main_call1_call3_call0_v147 : Ref sig .tc := ⟨.hbm, 478, rfl⟩
abbrev main_call1_call3_call0_c_37 : Ref sig .tc := ⟨.hbm, 479, rfl⟩
abbrev main_call1_call3_call0_v148 : Ref sig .tc := ⟨.hbm, 480, rfl⟩
abbrev main_call1_call3_call0_v149 : Ref sig .tc := ⟨.hbm, 481, rfl⟩
abbrev main_call1_call3_call0_v150 : Ref sig .tc := ⟨.hbm, 482, rfl⟩
abbrev main_call1_call3_call0_v151 : Ref sig .tc := ⟨.hbm, 483, rfl⟩
abbrev main_call1_call3_call0_v152 : Ref sig .tc := ⟨.hbm, 484, rfl⟩
abbrev main_call1_call3_call0_c_38 : Ref sig .tc := ⟨.hbm, 485, rfl⟩
abbrev main_call1_call3_call0_v153 : Ref sig .tc := ⟨.hbm, 486, rfl⟩
abbrev main_call1_call3_call0_v154 : Ref sig .tc := ⟨.hbm, 487, rfl⟩
abbrev main_call1_call3_call0_c_39 : Ref sig .tc := ⟨.hbm, 488, rfl⟩
abbrev main_call1_call3_call0_v155 : Ref sig .tc := ⟨.hbm, 489, rfl⟩
abbrev main_call1_call3_call0_v156 : Ref sig .tc := ⟨.hbm, 490, rfl⟩
abbrev main_call1_call3_call0_v157 : Ref sig .tc := ⟨.hbm, 491, rfl⟩
abbrev main_call1_call3_call0_v158 : Ref sig .tc := ⟨.hbm, 492, rfl⟩
abbrev main_call1_call3_call0_v159 : Ref sig .tc := ⟨.hbm, 493, rfl⟩
abbrev main_call1_call3_call0_c_40 : Ref sig .tc := ⟨.hbm, 494, rfl⟩
abbrev main_call1_call3_call0_v160 : Ref sig .tc := ⟨.hbm, 495, rfl⟩
abbrev main_call1_call3_call0_v161 : Ref sig .tc := ⟨.hbm, 496, rfl⟩
abbrev main_call1_call3_call0_c_41 : Ref sig .tc := ⟨.hbm, 497, rfl⟩
abbrev main_call1_call3_call0_v162 : Ref sig .tc := ⟨.hbm, 498, rfl⟩
abbrev main_call1_call3_call0_v163 : Ref sig .tc := ⟨.hbm, 499, rfl⟩
abbrev main_call1_call3_call0_v164 : Ref sig .tc := ⟨.hbm, 500, rfl⟩
abbrev main_call1_call3_call0_v165 : Ref sig .tc := ⟨.hbm, 501, rfl⟩
abbrev main_call1_call3_call0_v166 : Ref sig .tc := ⟨.hbm, 502, rfl⟩
abbrev main_call1_call3_call0_c_42 : Ref sig .tc := ⟨.hbm, 503, rfl⟩
abbrev main_call1_call3_call0_v167 : Ref sig .tc := ⟨.hbm, 504, rfl⟩
abbrev main_call1_call3_call0_v168 : Ref sig .tc := ⟨.hbm, 505, rfl⟩
abbrev main_call1_call3_call0_c_43 : Ref sig .tc := ⟨.hbm, 506, rfl⟩
abbrev main_call1_call3_call0_v169 : Ref sig .tc := ⟨.hbm, 507, rfl⟩
abbrev main_call1_call3_call0_v170 : Ref sig .tc := ⟨.hbm, 508, rfl⟩
abbrev main_call1_call3_call0_v171 : Ref sig .tc := ⟨.hbm, 509, rfl⟩
abbrev main_call1_call3_call0_v172 : Ref sig .tc := ⟨.hbm, 510, rfl⟩
abbrev main_call1_call3_call0_v173 : Ref sig .tc := ⟨.hbm, 511, rfl⟩
abbrev main_call1_call3_v15_0 : Ref sig .tc := ⟨.hbm, 512, rfl⟩
abbrev main_call1_call3_call0_v175 : Ref sig .tc := ⟨.hbm, 513, rfl⟩
abbrev main_call1_call3_call0_v176 : Ref sig .tc := ⟨.hbm, 514, rfl⟩
abbrev main_call1_call3_call0_c_44 : Ref sig .tc := ⟨.hbm, 515, rfl⟩
abbrev main_call1_call3_call0_v177 : Ref sig .tc := ⟨.hbm, 516, rfl⟩
abbrev main_call1_call3_v15_1 : Ref sig .tc := ⟨.hbm, 517, rfl⟩
abbrev main_call1_call3_v16 : Ref sig .tc := ⟨.hbm, 518, rfl⟩
abbrev main_call1_call3_v17 : Ref sig .tc := ⟨.hbm, 519, rfl⟩
abbrev main_call1_v8 : Ref sig .tc := ⟨.hbm, 520, rfl⟩
abbrev main_call1_v9 : Ref sig .tc := ⟨.hbm, 521, rfl⟩
abbrev main_call1_v10 : Ref sig .tc := ⟨.hbm, 522, rfl⟩
abbrev main_call1_v11 : Ref sig .tc := ⟨.hbm, 523, rfl⟩
abbrev main_call1_v12 : Ref sig .tc := ⟨.hbm, 524, rfl⟩
abbrev main_call1_v13 : Ref sig .tc := ⟨.hbm, 525, rfl⟩
abbrev main_call1_v14 : Ref sig .tc := ⟨.hbm, 526, rfl⟩
abbrev main_call1_v15 : Ref sig .tc := ⟨.hbm, 527, rfl⟩
abbrev main_call1_v16 : Ref sig .tc := ⟨.hbm, 528, rfl⟩
abbrev main_call1_v17 : Ref sig .tc := ⟨.hbm, 529, rfl⟩
abbrev main_call1_c_6 : Ref sig .tc := ⟨.hbm, 530, rfl⟩
abbrev main_call1_v18 : Ref sig .tc := ⟨.hbm, 531, rfl⟩
abbrev main_call1_v19 : Ref sig .tc := ⟨.hbm, 532, rfl⟩
abbrev main_call1_c_7 : Ref sig .tc := ⟨.hbm, 533, rfl⟩
abbrev main_call1_v20 : Ref sig .tc := ⟨.hbm, 534, rfl⟩
abbrev main_call1_v21 : Ref sig .tc := ⟨.hbm, 535, rfl⟩
abbrev main_call1_v22 : Ref sig .tc := ⟨.hbm, 536, rfl⟩
abbrev main_call1_v23 : Ref sig .tc := ⟨.hbm, 537, rfl⟩
abbrev main_call1_v24 : Ref sig .tc := ⟨.hbm, 538, rfl⟩
abbrev main_call1_v25 : Ref sig .tc := ⟨.hbm, 539, rfl⟩
abbrev main_call1_v26 : Ref sig .tc := ⟨.hbm, 540, rfl⟩
abbrev main_call1_v27 : Ref sig .tc := ⟨.hbm, 541, rfl⟩
abbrev main_call1_call4_v0 : Ref sig .tc := ⟨.hbm, 542, rfl⟩
abbrev main_call1_call4_c : Ref sig .tc := ⟨.hbm, 543, rfl⟩
abbrev main_call1_call4_v1 : Ref sig .tc := ⟨.hbm, 544, rfl⟩
abbrev main_call1_call4_v2 : Ref sig .tc := ⟨.hbm, 545, rfl⟩
abbrev main_call1_call4_v3 : Ref sig .tc := ⟨.hbm, 546, rfl⟩
abbrev main_call1_call4_v4 : Ref sig .tc := ⟨.hbm, 547, rfl⟩
abbrev main_call1_call4_v5 : Ref sig .tc := ⟨.hbm, 548, rfl⟩
abbrev main_call1_call4_v6 : Ref sig .tc := ⟨.hbm, 549, rfl⟩
abbrev main_call1_call4_v7 : Ref sig .tc := ⟨.hbm, 550, rfl⟩
abbrev main_call1_call4_v8 : Ref sig .tc := ⟨.hbm, 551, rfl⟩
abbrev main_call1_call4_v9 : Ref sig .tc := ⟨.hbm, 552, rfl⟩
abbrev main_call1_call4_c_0 : Ref sig .tc := ⟨.hbm, 553, rfl⟩
abbrev main_call1_call4_v10 : Ref sig .tc := ⟨.hbm, 554, rfl⟩
abbrev main_call1_call4_v11 : Ref sig .tc := ⟨.hbm, 555, rfl⟩
abbrev main_call1_call4_c_1 : Ref sig .tc := ⟨.hbm, 556, rfl⟩
abbrev main_call1_call4_v12 : Ref sig .tc := ⟨.hbm, 557, rfl⟩
abbrev main_call1_call4_v13 : Ref sig .tc := ⟨.hbm, 558, rfl⟩
abbrev main_call1_call4_v14 : Ref sig .tc := ⟨.hbm, 559, rfl⟩
abbrev main_call1_call4_v15 : Ref sig .tc := ⟨.hbm, 560, rfl⟩
abbrev main_call1_call4_v16 : Ref sig .tc := ⟨.hbm, 561, rfl⟩
abbrev main_call1_call4_c_2 : Ref sig .tc := ⟨.hbm, 562, rfl⟩
abbrev main_call1_call4_v17 : Ref sig .tc := ⟨.hbm, 563, rfl⟩
abbrev main_call1_call4_v18 : Ref sig .tc := ⟨.hbm, 564, rfl⟩
abbrev main_call1_call4_c_3 : Ref sig .tc := ⟨.hbm, 565, rfl⟩
abbrev main_call1_call4_v19 : Ref sig .tc := ⟨.hbm, 566, rfl⟩
abbrev main_call1_call4_v20 : Ref sig .tc := ⟨.hbm, 567, rfl⟩
abbrev main_call1_call4_v21 : Ref sig .tc := ⟨.hbm, 568, rfl⟩
abbrev main_call1_call4_v22 : Ref sig .tc := ⟨.hbm, 569, rfl⟩
abbrev main_call1_call4_v23 : Ref sig .tc := ⟨.hbm, 570, rfl⟩
abbrev main_call1_call4_c_4 : Ref sig .tc := ⟨.hbm, 571, rfl⟩
abbrev main_call1_call4_v24 : Ref sig .tc := ⟨.hbm, 572, rfl⟩
abbrev main_call1_call4_v25 : Ref sig .tc := ⟨.hbm, 573, rfl⟩
abbrev main_call1_call4_c_5 : Ref sig .tc := ⟨.hbm, 574, rfl⟩
abbrev main_call1_call4_v26 : Ref sig .tc := ⟨.hbm, 575, rfl⟩
abbrev main_call1_call4_v27 : Ref sig .tc := ⟨.hbm, 576, rfl⟩
abbrev main_call1_call4_v28 : Ref sig .tc := ⟨.hbm, 577, rfl⟩
abbrev main_call1_call4_v29 : Ref sig .tc := ⟨.hbm, 578, rfl⟩
abbrev main_call1_call4_v30 : Ref sig .tc := ⟨.hbm, 579, rfl⟩
abbrev main_call1_call4_c_6 : Ref sig .tc := ⟨.hbm, 580, rfl⟩
abbrev main_call1_call4_v31 : Ref sig .tc := ⟨.hbm, 581, rfl⟩
abbrev main_call1_call4_v32 : Ref sig .tc := ⟨.hbm, 582, rfl⟩
abbrev main_call1_call4_c_7 : Ref sig .tc := ⟨.hbm, 583, rfl⟩
abbrev main_call1_call4_v33 : Ref sig .tc := ⟨.hbm, 584, rfl⟩
abbrev main_call1_call4_v34 : Ref sig .tc := ⟨.hbm, 585, rfl⟩
abbrev main_call1_call4_v35 : Ref sig .tc := ⟨.hbm, 586, rfl⟩
abbrev main_call1_call4_v36 : Ref sig .tc := ⟨.hbm, 587, rfl⟩
abbrev main_call1_call4_v37 : Ref sig .tc := ⟨.hbm, 588, rfl⟩
abbrev main_call1_call4_v38 : Ref sig .tc := ⟨.hbm, 589, rfl⟩
abbrev main_call1_call4_v39 : Ref sig .tc := ⟨.hbm, 590, rfl⟩
abbrev main_call1_call4_v40 : Ref sig .tc := ⟨.hbm, 591, rfl⟩
abbrev main_call1_call4_c_8 : Ref sig .tc := ⟨.hbm, 592, rfl⟩
abbrev main_call1_call4_v41 : Ref sig .tc := ⟨.hbm, 593, rfl⟩
abbrev main_call1_call4_v42 : Ref sig .tc := ⟨.hbm, 594, rfl⟩
abbrev main_call1_call4_v43 : Ref sig .tc := ⟨.hbm, 595, rfl⟩
abbrev main_call1_call4_c_9 : Ref sig .tc := ⟨.hbm, 596, rfl⟩
abbrev main_call1_call4_v44 : Ref sig .tc := ⟨.hbm, 597, rfl⟩
abbrev main_call1_call4_v45 : Ref sig .tc := ⟨.hbm, 598, rfl⟩
abbrev main_call1_call4_c_10 : Ref sig .tc := ⟨.hbm, 599, rfl⟩
abbrev main_call1_call4_v46 : Ref sig .tc := ⟨.hbm, 600, rfl⟩
abbrev main_call1_call4_v47 : Ref sig .tc := ⟨.hbm, 601, rfl⟩
abbrev main_call1_call4_v48 : Ref sig .tc := ⟨.hbm, 602, rfl⟩
abbrev main_call1_call4_v49 : Ref sig .tc := ⟨.hbm, 603, rfl⟩
abbrev main_call1_call4_v50 : Ref sig .tc := ⟨.hbm, 604, rfl⟩
abbrev main_call1_call4_c_11 : Ref sig .tc := ⟨.hbm, 605, rfl⟩
abbrev main_call1_call4_v51 : Ref sig .tc := ⟨.hbm, 606, rfl⟩
abbrev main_call1_call4_v52 : Ref sig .tc := ⟨.hbm, 607, rfl⟩
abbrev main_call1_call4_c_12 : Ref sig .tc := ⟨.hbm, 608, rfl⟩
abbrev main_call1_call4_v53 : Ref sig .tc := ⟨.hbm, 609, rfl⟩
abbrev main_call1_call4_v54 : Ref sig .tc := ⟨.hbm, 610, rfl⟩
abbrev main_call1_call4_v55 : Ref sig .tc := ⟨.hbm, 611, rfl⟩
abbrev main_call1_call4_v56 : Ref sig .tc := ⟨.hbm, 612, rfl⟩
abbrev main_call1_call4_v57 : Ref sig .tc := ⟨.hbm, 613, rfl⟩
abbrev main_call1_call4_c_13 : Ref sig .tc := ⟨.hbm, 614, rfl⟩
abbrev main_call1_call4_v58 : Ref sig .tc := ⟨.hbm, 615, rfl⟩
abbrev main_call1_call4_v59 : Ref sig .tc := ⟨.hbm, 616, rfl⟩
abbrev main_call1_call4_c_14 : Ref sig .tc := ⟨.hbm, 617, rfl⟩
abbrev main_call1_call4_v60 : Ref sig .tc := ⟨.hbm, 618, rfl⟩
abbrev main_call1_call4_v61 : Ref sig .tc := ⟨.hbm, 619, rfl⟩
abbrev main_call1_call4_v62 : Ref sig .tc := ⟨.hbm, 620, rfl⟩
abbrev main_call1_call4_v63 : Ref sig .tc := ⟨.hbm, 621, rfl⟩
abbrev main_call1_call4_v64 : Ref sig .tc := ⟨.hbm, 622, rfl⟩
abbrev main_call1_call4_c_15 : Ref sig .tc := ⟨.hbm, 623, rfl⟩
abbrev main_call1_call4_v65 : Ref sig .tc := ⟨.hbm, 624, rfl⟩
abbrev main_call1_call4_v66 : Ref sig .tc := ⟨.hbm, 625, rfl⟩
abbrev main_call1_call4_c_16 : Ref sig .tc := ⟨.hbm, 626, rfl⟩
abbrev main_call1_call4_v67 : Ref sig .tc := ⟨.hbm, 627, rfl⟩
abbrev main_call1_call4_v68 : Ref sig .tc := ⟨.hbm, 628, rfl⟩
abbrev main_call1_call4_v69 : Ref sig .tc := ⟨.hbm, 629, rfl⟩
abbrev main_call1_call4_v70 : Ref sig .tc := ⟨.hbm, 630, rfl⟩
abbrev main_call1_call4_v71 : Ref sig .tc := ⟨.hbm, 631, rfl⟩
abbrev main_call1_call4_v72 : Ref sig .tc := ⟨.hbm, 632, rfl⟩
abbrev main_call1_call4_v73 : Ref sig .tc := ⟨.hbm, 633, rfl⟩
abbrev main_call1_call4_v74 : Ref sig .tc := ⟨.hbm, 634, rfl⟩
abbrev main_call1_call4_c_17 : Ref sig .tc := ⟨.hbm, 635, rfl⟩
abbrev main_call1_call4_v75 : Ref sig .tc := ⟨.hbm, 636, rfl⟩
abbrev main_call1_call4_v76 : Ref sig .tc := ⟨.hbm, 637, rfl⟩
abbrev main_call1_call4_v77 : Ref sig .tc := ⟨.hbm, 638, rfl⟩
abbrev main_call1_call4_c_18 : Ref sig .tc := ⟨.hbm, 639, rfl⟩
abbrev main_call1_call4_v78 : Ref sig .tc := ⟨.hbm, 640, rfl⟩
abbrev main_call1_call4_v79 : Ref sig .tc := ⟨.hbm, 641, rfl⟩
abbrev main_call1_call4_c_19 : Ref sig .tc := ⟨.hbm, 642, rfl⟩
abbrev main_call1_call4_v80 : Ref sig .tc := ⟨.hbm, 643, rfl⟩
abbrev main_call1_call4_v81 : Ref sig .tc := ⟨.hbm, 644, rfl⟩
abbrev main_call1_call4_v82 : Ref sig .tc := ⟨.hbm, 645, rfl⟩
abbrev main_call1_call4_v83 : Ref sig .tc := ⟨.hbm, 646, rfl⟩
abbrev main_call1_call4_v84 : Ref sig .tc := ⟨.hbm, 647, rfl⟩
abbrev main_call1_call4_c_20 : Ref sig .tc := ⟨.hbm, 648, rfl⟩
abbrev main_call1_call4_v85 : Ref sig .tc := ⟨.hbm, 649, rfl⟩
abbrev main_call1_call4_v86 : Ref sig .tc := ⟨.hbm, 650, rfl⟩
abbrev main_call1_call4_c_21 : Ref sig .tc := ⟨.hbm, 651, rfl⟩
abbrev main_call1_call4_v87 : Ref sig .tc := ⟨.hbm, 652, rfl⟩
abbrev main_call1_call4_v88 : Ref sig .tc := ⟨.hbm, 653, rfl⟩
abbrev main_call1_call4_v89 : Ref sig .tc := ⟨.hbm, 654, rfl⟩
abbrev main_call1_call4_v90 : Ref sig .tc := ⟨.hbm, 655, rfl⟩
abbrev main_call1_call4_v91 : Ref sig .tc := ⟨.hbm, 656, rfl⟩
abbrev main_call1_call4_c_22 : Ref sig .tc := ⟨.hbm, 657, rfl⟩
abbrev main_call1_call4_v92 : Ref sig .tc := ⟨.hbm, 658, rfl⟩
abbrev main_call1_call4_v93 : Ref sig .tc := ⟨.hbm, 659, rfl⟩
abbrev main_call1_call4_c_23 : Ref sig .tc := ⟨.hbm, 660, rfl⟩
abbrev main_call1_call4_v94 : Ref sig .tc := ⟨.hbm, 661, rfl⟩
abbrev main_call1_call4_v95 : Ref sig .tc := ⟨.hbm, 662, rfl⟩
abbrev main_call1_call4_v96 : Ref sig .tc := ⟨.hbm, 663, rfl⟩
abbrev main_call1_call4_v97 : Ref sig .tc := ⟨.hbm, 664, rfl⟩
abbrev main_call1_call4_v98 : Ref sig .tc := ⟨.hbm, 665, rfl⟩
abbrev main_call1_call4_c_24 : Ref sig .tc := ⟨.hbm, 666, rfl⟩
abbrev main_call1_call4_v99 : Ref sig .tc := ⟨.hbm, 667, rfl⟩
abbrev main_call1_call4_v100 : Ref sig .tc := ⟨.hbm, 668, rfl⟩
abbrev main_call1_call4_c_25 : Ref sig .tc := ⟨.hbm, 669, rfl⟩
abbrev main_call1_call4_v101 : Ref sig .tc := ⟨.hbm, 670, rfl⟩
abbrev main_call1_call4_v102 : Ref sig .tc := ⟨.hbm, 671, rfl⟩
abbrev main_call1_call4_v103 : Ref sig .tc := ⟨.hbm, 672, rfl⟩
abbrev main_call1_call4_v104 : Ref sig .tc := ⟨.hbm, 673, rfl⟩
abbrev main_call1_call4_v105 : Ref sig .tc := ⟨.hbm, 674, rfl⟩
abbrev main_call1_call4_v106 : Ref sig .tc := ⟨.hbm, 675, rfl⟩
abbrev main_call1_call4_v107 : Ref sig .tc := ⟨.hbm, 676, rfl⟩
abbrev main_call1_call4_v108 : Ref sig .tc := ⟨.hbm, 677, rfl⟩
abbrev main_call1_call4_c_26 : Ref sig .tc := ⟨.hbm, 678, rfl⟩
abbrev main_call1_call4_v109 : Ref sig .tc := ⟨.hbm, 679, rfl⟩
abbrev main_call1_call4_v110 : Ref sig .tc := ⟨.hbm, 680, rfl⟩
abbrev main_call1_call4_v111 : Ref sig .tc := ⟨.hbm, 681, rfl⟩
abbrev main_call1_call4_c_27 : Ref sig .tc := ⟨.hbm, 682, rfl⟩
abbrev main_call1_call4_v112 : Ref sig .tc := ⟨.hbm, 683, rfl⟩
abbrev main_call1_call4_v113 : Ref sig .tc := ⟨.hbm, 684, rfl⟩
abbrev main_call1_call4_c_28 : Ref sig .tc := ⟨.hbm, 685, rfl⟩
abbrev main_call1_call4_v114 : Ref sig .tc := ⟨.hbm, 686, rfl⟩
abbrev main_call1_call4_v115 : Ref sig .tc := ⟨.hbm, 687, rfl⟩
abbrev main_call1_call4_v116 : Ref sig .tc := ⟨.hbm, 688, rfl⟩
abbrev main_call1_call4_v117 : Ref sig .tc := ⟨.hbm, 689, rfl⟩
abbrev main_call1_call4_v118 : Ref sig .tc := ⟨.hbm, 690, rfl⟩
abbrev main_call1_call4_c_29 : Ref sig .tc := ⟨.hbm, 691, rfl⟩
abbrev main_call1_call4_v119 : Ref sig .tc := ⟨.hbm, 692, rfl⟩
abbrev main_call1_call4_v120 : Ref sig .tc := ⟨.hbm, 693, rfl⟩
abbrev main_call1_call4_c_30 : Ref sig .tc := ⟨.hbm, 694, rfl⟩
abbrev main_call1_call4_v121 : Ref sig .tc := ⟨.hbm, 695, rfl⟩
abbrev main_call1_call4_v122 : Ref sig .tc := ⟨.hbm, 696, rfl⟩
abbrev main_call1_call4_v123 : Ref sig .tc := ⟨.hbm, 697, rfl⟩
abbrev main_call1_call4_v124 : Ref sig .tc := ⟨.hbm, 698, rfl⟩
abbrev main_call1_call4_v125 : Ref sig .tc := ⟨.hbm, 699, rfl⟩
abbrev main_call1_call4_c_31 : Ref sig .tc := ⟨.hbm, 700, rfl⟩
abbrev main_call1_call4_v126 : Ref sig .tc := ⟨.hbm, 701, rfl⟩
abbrev main_call1_call4_v127 : Ref sig .tc := ⟨.hbm, 702, rfl⟩
abbrev main_call1_call4_c_32 : Ref sig .tc := ⟨.hbm, 703, rfl⟩
abbrev main_call1_call4_v128 : Ref sig .tc := ⟨.hbm, 704, rfl⟩
abbrev main_call1_call4_v129 : Ref sig .tc := ⟨.hbm, 705, rfl⟩
abbrev main_call1_call4_v130 : Ref sig .tc := ⟨.hbm, 706, rfl⟩
abbrev main_call1_call4_v131 : Ref sig .tc := ⟨.hbm, 707, rfl⟩
abbrev main_call1_call4_v132 : Ref sig .tc := ⟨.hbm, 708, rfl⟩
abbrev main_call1_call4_c_33 : Ref sig .tc := ⟨.hbm, 709, rfl⟩
abbrev main_call1_call4_v133 : Ref sig .tc := ⟨.hbm, 710, rfl⟩
abbrev main_call1_call4_v134 : Ref sig .tc := ⟨.hbm, 711, rfl⟩
abbrev main_call1_call4_c_34 : Ref sig .tc := ⟨.hbm, 712, rfl⟩
abbrev main_call1_call4_v135 : Ref sig .tc := ⟨.hbm, 713, rfl⟩
abbrev main_call1_call4_v136 : Ref sig .tc := ⟨.hbm, 714, rfl⟩
abbrev main_call1_call4_v137 : Ref sig .tc := ⟨.hbm, 715, rfl⟩
abbrev main_call1_call4_v138 : Ref sig .tc := ⟨.hbm, 716, rfl⟩
abbrev main_call1_call4_v139 : Ref sig .tc := ⟨.hbm, 717, rfl⟩
abbrev main_call1_call4_v140 : Ref sig .tc := ⟨.hbm, 718, rfl⟩
abbrev main_call1_call4_v141 : Ref sig .tc := ⟨.hbm, 719, rfl⟩
abbrev main_call1_call4_v142 : Ref sig .tc := ⟨.hbm, 720, rfl⟩
abbrev main_call1_call4_c_35 : Ref sig .tc := ⟨.hbm, 721, rfl⟩
abbrev main_call1_call4_v143 : Ref sig .tc := ⟨.hbm, 722, rfl⟩
abbrev main_call1_call4_v144 : Ref sig .tc := ⟨.hbm, 723, rfl⟩
abbrev main_call1_call4_v145 : Ref sig .tc := ⟨.hbm, 724, rfl⟩
abbrev main_call1_call4_c_36 : Ref sig .tc := ⟨.hbm, 725, rfl⟩
abbrev main_call1_call4_v146 : Ref sig .tc := ⟨.hbm, 726, rfl⟩
abbrev main_call1_call4_v147 : Ref sig .tc := ⟨.hbm, 727, rfl⟩
abbrev main_call1_call4_c_37 : Ref sig .tc := ⟨.hbm, 728, rfl⟩
abbrev main_call1_call4_v148 : Ref sig .tc := ⟨.hbm, 729, rfl⟩
abbrev main_call1_call4_v149 : Ref sig .tc := ⟨.hbm, 730, rfl⟩
abbrev main_call1_call4_v150 : Ref sig .tc := ⟨.hbm, 731, rfl⟩
abbrev main_call1_call4_v151 : Ref sig .tc := ⟨.hbm, 732, rfl⟩
abbrev main_call1_call4_v152 : Ref sig .tc := ⟨.hbm, 733, rfl⟩
abbrev main_call1_call4_c_38 : Ref sig .tc := ⟨.hbm, 734, rfl⟩
abbrev main_call1_call4_v153 : Ref sig .tc := ⟨.hbm, 735, rfl⟩
abbrev main_call1_call4_v154 : Ref sig .tc := ⟨.hbm, 736, rfl⟩
abbrev main_call1_call4_c_39 : Ref sig .tc := ⟨.hbm, 737, rfl⟩
abbrev main_call1_call4_v155 : Ref sig .tc := ⟨.hbm, 738, rfl⟩
abbrev main_call1_call4_v156 : Ref sig .tc := ⟨.hbm, 739, rfl⟩
abbrev main_call1_call4_v157 : Ref sig .tc := ⟨.hbm, 740, rfl⟩
abbrev main_call1_call4_v158 : Ref sig .tc := ⟨.hbm, 741, rfl⟩
abbrev main_call1_call4_v159 : Ref sig .tc := ⟨.hbm, 742, rfl⟩
abbrev main_call1_call4_c_40 : Ref sig .tc := ⟨.hbm, 743, rfl⟩
abbrev main_call1_call4_v160 : Ref sig .tc := ⟨.hbm, 744, rfl⟩
abbrev main_call1_call4_v161 : Ref sig .tc := ⟨.hbm, 745, rfl⟩
abbrev main_call1_call4_c_41 : Ref sig .tc := ⟨.hbm, 746, rfl⟩
abbrev main_call1_call4_v162 : Ref sig .tc := ⟨.hbm, 747, rfl⟩
abbrev main_call1_call4_v163 : Ref sig .tc := ⟨.hbm, 748, rfl⟩
abbrev main_call1_call4_v164 : Ref sig .tc := ⟨.hbm, 749, rfl⟩
abbrev main_call1_call4_v165 : Ref sig .tc := ⟨.hbm, 750, rfl⟩
abbrev main_call1_call4_v166 : Ref sig .tc := ⟨.hbm, 751, rfl⟩
abbrev main_call1_call4_c_42 : Ref sig .tc := ⟨.hbm, 752, rfl⟩
abbrev main_call1_call4_v167 : Ref sig .tc := ⟨.hbm, 753, rfl⟩
abbrev main_call1_call4_v168 : Ref sig .tc := ⟨.hbm, 754, rfl⟩
abbrev main_call1_call4_c_43 : Ref sig .tc := ⟨.hbm, 755, rfl⟩
abbrev main_call1_call4_v169 : Ref sig .tc := ⟨.hbm, 756, rfl⟩
abbrev main_call1_call4_v170 : Ref sig .tc := ⟨.hbm, 757, rfl⟩
abbrev main_call1_call4_v171 : Ref sig .tc := ⟨.hbm, 758, rfl⟩
abbrev main_call1_call4_v172 : Ref sig .tc := ⟨.hbm, 759, rfl⟩
abbrev main_call1_call4_v173 : Ref sig .tc := ⟨.hbm, 760, rfl⟩
abbrev main_call1_v28_0 : Ref sig .tc := ⟨.hbm, 761, rfl⟩
abbrev main_call1_call4_v175 : Ref sig .tc := ⟨.hbm, 762, rfl⟩
abbrev main_call1_call4_v176 : Ref sig .tc := ⟨.hbm, 763, rfl⟩
abbrev main_call1_call4_c_44 : Ref sig .tc := ⟨.hbm, 764, rfl⟩
abbrev main_call1_call4_v177 : Ref sig .tc := ⟨.hbm, 765, rfl⟩
abbrev main_call1_v28_1 : Ref sig .tc := ⟨.hbm, 766, rfl⟩
abbrev main_call1_v29 : Ref sig .tc := ⟨.hbm, 767, rfl⟩
abbrev main_call1_v30 : Ref sig .tc := ⟨.hbm, 768, rfl⟩
abbrev main_call1_v31 : Ref sig .tc := ⟨.hbm, 769, rfl⟩
abbrev main_call1_v32 : Ref sig .tc := ⟨.hbm, 770, rfl⟩
abbrev main_call1_v33 : Ref sig .tc := ⟨.hbm, 771, rfl⟩
abbrev main_call1_v34 : Ref sig .tc := ⟨.hbm, 772, rfl⟩
abbrev main_call1_c_8 : Ref sig .tc := ⟨.hbm, 773, rfl⟩
abbrev main_call1_v35 : Ref sig .tc := ⟨.hbm, 774, rfl⟩
abbrev main_call1_v36 : Ref sig .tc := ⟨.hbm, 775, rfl⟩
abbrev main_call1_c_9 : Ref sig .tc := ⟨.hbm, 776, rfl⟩
abbrev main_call1_v37 : Ref sig .tc := ⟨.hbm, 777, rfl⟩
abbrev main_call1_v38 : Ref sig .tc := ⟨.hbm, 778, rfl⟩
abbrev main_call1_v39 : Ref sig .tc := ⟨.hbm, 779, rfl⟩
abbrev main_call1_v40 : Ref sig .tc := ⟨.hbm, 780, rfl⟩
abbrev main_call1_v41 : Ref sig .tc := ⟨.hbm, 781, rfl⟩
abbrev main_call1_v42 : Ref sig .tc := ⟨.hbm, 782, rfl⟩
abbrev main_call1_v43 : Ref sig .tc := ⟨.hbm, 783, rfl⟩
abbrev main_call1_v44 : Ref sig .tc := ⟨.hbm, 784, rfl⟩
abbrev main_call1_call5_v0 : Ref sig .tc := ⟨.hbm, 785, rfl⟩
abbrev main_call1_call5_c : Ref sig .tc := ⟨.hbm, 786, rfl⟩
abbrev main_call1_call5_v1 : Ref sig .tc := ⟨.hbm, 787, rfl⟩
abbrev main_call1_call5_v2 : Ref sig .tc := ⟨.hbm, 788, rfl⟩
abbrev main_call1_call5_v3 : Ref sig .tc := ⟨.hbm, 789, rfl⟩
abbrev main_call1_call5_v4 : Ref sig .tc := ⟨.hbm, 790, rfl⟩
abbrev main_call1_call5_v5 : Ref sig .tc := ⟨.hbm, 791, rfl⟩
abbrev main_call1_call5_v6 : Ref sig .tc := ⟨.hbm, 792, rfl⟩
abbrev main_call1_call5_v7 : Ref sig .tc := ⟨.hbm, 793, rfl⟩
abbrev main_call1_call5_v8 : Ref sig .tc := ⟨.hbm, 794, rfl⟩
abbrev main_call1_call5_v9 : Ref sig .tc := ⟨.hbm, 795, rfl⟩
abbrev main_call1_call5_c_0 : Ref sig .tc := ⟨.hbm, 796, rfl⟩
abbrev main_call1_call5_v10 : Ref sig .tc := ⟨.hbm, 797, rfl⟩
abbrev main_call1_call5_v11 : Ref sig .tc := ⟨.hbm, 798, rfl⟩
abbrev main_call1_call5_c_1 : Ref sig .tc := ⟨.hbm, 799, rfl⟩
abbrev main_call1_call5_v12 : Ref sig .tc := ⟨.hbm, 800, rfl⟩
abbrev main_call1_call5_v13 : Ref sig .tc := ⟨.hbm, 801, rfl⟩
abbrev main_call1_call5_v14 : Ref sig .tc := ⟨.hbm, 802, rfl⟩
abbrev main_call1_call5_v15 : Ref sig .tc := ⟨.hbm, 803, rfl⟩
abbrev main_call1_call5_v16 : Ref sig .tc := ⟨.hbm, 804, rfl⟩
abbrev main_call1_call5_c_2 : Ref sig .tc := ⟨.hbm, 805, rfl⟩
abbrev main_call1_call5_v17 : Ref sig .tc := ⟨.hbm, 806, rfl⟩
abbrev main_call1_call5_v18 : Ref sig .tc := ⟨.hbm, 807, rfl⟩
abbrev main_call1_call5_c_3 : Ref sig .tc := ⟨.hbm, 808, rfl⟩
abbrev main_call1_call5_v19 : Ref sig .tc := ⟨.hbm, 809, rfl⟩
abbrev main_call1_call5_v20 : Ref sig .tc := ⟨.hbm, 810, rfl⟩
abbrev main_call1_call5_v21 : Ref sig .tc := ⟨.hbm, 811, rfl⟩
abbrev main_call1_call5_v22 : Ref sig .tc := ⟨.hbm, 812, rfl⟩
abbrev main_call1_call5_v23 : Ref sig .tc := ⟨.hbm, 813, rfl⟩
abbrev main_call1_call5_c_4 : Ref sig .tc := ⟨.hbm, 814, rfl⟩
abbrev main_call1_call5_v24 : Ref sig .tc := ⟨.hbm, 815, rfl⟩
abbrev main_call1_call5_v25 : Ref sig .tc := ⟨.hbm, 816, rfl⟩
abbrev main_call1_call5_c_5 : Ref sig .tc := ⟨.hbm, 817, rfl⟩
abbrev main_call1_call5_v26 : Ref sig .tc := ⟨.hbm, 818, rfl⟩
abbrev main_call1_call5_v27 : Ref sig .tc := ⟨.hbm, 819, rfl⟩
abbrev main_call1_call5_v28 : Ref sig .tc := ⟨.hbm, 820, rfl⟩
abbrev main_call1_call5_v29 : Ref sig .tc := ⟨.hbm, 821, rfl⟩
abbrev main_call1_call5_v30 : Ref sig .tc := ⟨.hbm, 822, rfl⟩
abbrev main_call1_call5_c_6 : Ref sig .tc := ⟨.hbm, 823, rfl⟩
abbrev main_call1_call5_v31 : Ref sig .tc := ⟨.hbm, 824, rfl⟩
abbrev main_call1_call5_v32 : Ref sig .tc := ⟨.hbm, 825, rfl⟩
abbrev main_call1_call5_c_7 : Ref sig .tc := ⟨.hbm, 826, rfl⟩
abbrev main_call1_call5_v33 : Ref sig .tc := ⟨.hbm, 827, rfl⟩
abbrev main_call1_call5_v34 : Ref sig .tc := ⟨.hbm, 828, rfl⟩
abbrev main_call1_call5_v35 : Ref sig .tc := ⟨.hbm, 829, rfl⟩
abbrev main_call1_call5_v36 : Ref sig .tc := ⟨.hbm, 830, rfl⟩
abbrev main_call1_call5_v37 : Ref sig .tc := ⟨.hbm, 831, rfl⟩
abbrev main_call1_call5_v38 : Ref sig .tc := ⟨.hbm, 832, rfl⟩
abbrev main_call1_call5_v39 : Ref sig .tc := ⟨.hbm, 833, rfl⟩
abbrev main_call1_call5_v40 : Ref sig .tc := ⟨.hbm, 834, rfl⟩
abbrev main_call1_call5_c_8 : Ref sig .tc := ⟨.hbm, 835, rfl⟩
abbrev main_call1_call5_v41 : Ref sig .tc := ⟨.hbm, 836, rfl⟩
abbrev main_call1_call5_v42 : Ref sig .tc := ⟨.hbm, 837, rfl⟩
abbrev main_call1_call5_v43 : Ref sig .tc := ⟨.hbm, 838, rfl⟩
abbrev main_call1_call5_c_9 : Ref sig .tc := ⟨.hbm, 839, rfl⟩
abbrev main_call1_call5_v44 : Ref sig .tc := ⟨.hbm, 840, rfl⟩
abbrev main_call1_call5_v45 : Ref sig .tc := ⟨.hbm, 841, rfl⟩
abbrev main_call1_call5_c_10 : Ref sig .tc := ⟨.hbm, 842, rfl⟩
abbrev main_call1_call5_v46 : Ref sig .tc := ⟨.hbm, 843, rfl⟩
abbrev main_call1_call5_v47 : Ref sig .tc := ⟨.hbm, 844, rfl⟩
abbrev main_call1_call5_v48 : Ref sig .tc := ⟨.hbm, 845, rfl⟩
abbrev main_call1_call5_v49 : Ref sig .tc := ⟨.hbm, 846, rfl⟩
abbrev main_call1_call5_v50 : Ref sig .tc := ⟨.hbm, 847, rfl⟩
abbrev main_call1_call5_c_11 : Ref sig .tc := ⟨.hbm, 848, rfl⟩
abbrev main_call1_call5_v51 : Ref sig .tc := ⟨.hbm, 849, rfl⟩
abbrev main_call1_call5_v52 : Ref sig .tc := ⟨.hbm, 850, rfl⟩
abbrev main_call1_call5_c_12 : Ref sig .tc := ⟨.hbm, 851, rfl⟩
abbrev main_call1_call5_v53 : Ref sig .tc := ⟨.hbm, 852, rfl⟩
abbrev main_call1_call5_v54 : Ref sig .tc := ⟨.hbm, 853, rfl⟩
abbrev main_call1_call5_v55 : Ref sig .tc := ⟨.hbm, 854, rfl⟩
abbrev main_call1_call5_v56 : Ref sig .tc := ⟨.hbm, 855, rfl⟩
abbrev main_call1_call5_v57 : Ref sig .tc := ⟨.hbm, 856, rfl⟩
abbrev main_call1_call5_c_13 : Ref sig .tc := ⟨.hbm, 857, rfl⟩
abbrev main_call1_call5_v58 : Ref sig .tc := ⟨.hbm, 858, rfl⟩
abbrev main_call1_call5_v59 : Ref sig .tc := ⟨.hbm, 859, rfl⟩
abbrev main_call1_call5_c_14 : Ref sig .tc := ⟨.hbm, 860, rfl⟩
abbrev main_call1_call5_v60 : Ref sig .tc := ⟨.hbm, 861, rfl⟩
abbrev main_call1_call5_v61 : Ref sig .tc := ⟨.hbm, 862, rfl⟩
abbrev main_call1_call5_v62 : Ref sig .tc := ⟨.hbm, 863, rfl⟩
abbrev main_call1_call5_v63 : Ref sig .tc := ⟨.hbm, 864, rfl⟩
abbrev main_call1_call5_v64 : Ref sig .tc := ⟨.hbm, 865, rfl⟩
abbrev main_call1_call5_c_15 : Ref sig .tc := ⟨.hbm, 866, rfl⟩
abbrev main_call1_call5_v65 : Ref sig .tc := ⟨.hbm, 867, rfl⟩
abbrev main_call1_call5_v66 : Ref sig .tc := ⟨.hbm, 868, rfl⟩
abbrev main_call1_call5_c_16 : Ref sig .tc := ⟨.hbm, 869, rfl⟩
abbrev main_call1_call5_v67 : Ref sig .tc := ⟨.hbm, 870, rfl⟩
abbrev main_call1_call5_v68 : Ref sig .tc := ⟨.hbm, 871, rfl⟩
abbrev main_call1_call5_v69 : Ref sig .tc := ⟨.hbm, 872, rfl⟩
abbrev main_call1_call5_v70 : Ref sig .tc := ⟨.hbm, 873, rfl⟩
abbrev main_call1_call5_v71 : Ref sig .tc := ⟨.hbm, 874, rfl⟩
abbrev main_call1_call5_v72 : Ref sig .tc := ⟨.hbm, 875, rfl⟩
abbrev main_call1_call5_v73 : Ref sig .tc := ⟨.hbm, 876, rfl⟩
abbrev main_call1_call5_v74 : Ref sig .tc := ⟨.hbm, 877, rfl⟩
abbrev main_call1_call5_c_17 : Ref sig .tc := ⟨.hbm, 878, rfl⟩
abbrev main_call1_call5_v75 : Ref sig .tc := ⟨.hbm, 879, rfl⟩
abbrev main_call1_call5_v76 : Ref sig .tc := ⟨.hbm, 880, rfl⟩
abbrev main_call1_call5_v77 : Ref sig .tc := ⟨.hbm, 881, rfl⟩
abbrev main_call1_call5_c_18 : Ref sig .tc := ⟨.hbm, 882, rfl⟩
abbrev main_call1_call5_v78 : Ref sig .tc := ⟨.hbm, 883, rfl⟩
abbrev main_call1_call5_v79 : Ref sig .tc := ⟨.hbm, 884, rfl⟩
abbrev main_call1_call5_c_19 : Ref sig .tc := ⟨.hbm, 885, rfl⟩
abbrev main_call1_call5_v80 : Ref sig .tc := ⟨.hbm, 886, rfl⟩
abbrev main_call1_call5_v81 : Ref sig .tc := ⟨.hbm, 887, rfl⟩
abbrev main_call1_call5_v82 : Ref sig .tc := ⟨.hbm, 888, rfl⟩
abbrev main_call1_call5_v83 : Ref sig .tc := ⟨.hbm, 889, rfl⟩
abbrev main_call1_call5_v84 : Ref sig .tc := ⟨.hbm, 890, rfl⟩
abbrev main_call1_call5_c_20 : Ref sig .tc := ⟨.hbm, 891, rfl⟩
abbrev main_call1_call5_v85 : Ref sig .tc := ⟨.hbm, 892, rfl⟩
abbrev main_call1_call5_v86 : Ref sig .tc := ⟨.hbm, 893, rfl⟩
abbrev main_call1_call5_c_21 : Ref sig .tc := ⟨.hbm, 894, rfl⟩
abbrev main_call1_call5_v87 : Ref sig .tc := ⟨.hbm, 895, rfl⟩
abbrev main_call1_call5_v88 : Ref sig .tc := ⟨.hbm, 896, rfl⟩
abbrev main_call1_call5_v89 : Ref sig .tc := ⟨.hbm, 897, rfl⟩
abbrev main_call1_call5_v90 : Ref sig .tc := ⟨.hbm, 898, rfl⟩
abbrev main_call1_call5_v91 : Ref sig .tc := ⟨.hbm, 899, rfl⟩
abbrev main_call1_call5_c_22 : Ref sig .tc := ⟨.hbm, 900, rfl⟩
abbrev main_call1_call5_v92 : Ref sig .tc := ⟨.hbm, 901, rfl⟩
abbrev main_call1_call5_v93 : Ref sig .tc := ⟨.hbm, 902, rfl⟩
abbrev main_call1_call5_c_23 : Ref sig .tc := ⟨.hbm, 903, rfl⟩
abbrev main_call1_call5_v94 : Ref sig .tc := ⟨.hbm, 904, rfl⟩
abbrev main_call1_call5_v95 : Ref sig .tc := ⟨.hbm, 905, rfl⟩
abbrev main_call1_call5_v96 : Ref sig .tc := ⟨.hbm, 906, rfl⟩
abbrev main_call1_call5_v97 : Ref sig .tc := ⟨.hbm, 907, rfl⟩
abbrev main_call1_call5_v98 : Ref sig .tc := ⟨.hbm, 908, rfl⟩
abbrev main_call1_call5_c_24 : Ref sig .tc := ⟨.hbm, 909, rfl⟩
abbrev main_call1_call5_v99 : Ref sig .tc := ⟨.hbm, 910, rfl⟩
abbrev main_call1_call5_v100 : Ref sig .tc := ⟨.hbm, 911, rfl⟩
abbrev main_call1_call5_c_25 : Ref sig .tc := ⟨.hbm, 912, rfl⟩
abbrev main_call1_call5_v101 : Ref sig .tc := ⟨.hbm, 913, rfl⟩
abbrev main_call1_call5_v102 : Ref sig .tc := ⟨.hbm, 914, rfl⟩
abbrev main_call1_call5_v103 : Ref sig .tc := ⟨.hbm, 915, rfl⟩
abbrev main_call1_call5_v104 : Ref sig .tc := ⟨.hbm, 916, rfl⟩
abbrev main_call1_call5_v105 : Ref sig .tc := ⟨.hbm, 917, rfl⟩
abbrev main_call1_call5_v106 : Ref sig .tc := ⟨.hbm, 918, rfl⟩
abbrev main_call1_call5_v107 : Ref sig .tc := ⟨.hbm, 919, rfl⟩
abbrev main_call1_call5_v108 : Ref sig .tc := ⟨.hbm, 920, rfl⟩
abbrev main_call1_call5_c_26 : Ref sig .tc := ⟨.hbm, 921, rfl⟩
abbrev main_call1_call5_v109 : Ref sig .tc := ⟨.hbm, 922, rfl⟩
abbrev main_call1_call5_v110 : Ref sig .tc := ⟨.hbm, 923, rfl⟩
abbrev main_call1_call5_v111 : Ref sig .tc := ⟨.hbm, 924, rfl⟩
abbrev main_call1_call5_c_27 : Ref sig .tc := ⟨.hbm, 925, rfl⟩
abbrev main_call1_call5_v112 : Ref sig .tc := ⟨.hbm, 926, rfl⟩
abbrev main_call1_call5_v113 : Ref sig .tc := ⟨.hbm, 927, rfl⟩
abbrev main_call1_call5_c_28 : Ref sig .tc := ⟨.hbm, 928, rfl⟩
abbrev main_call1_call5_v114 : Ref sig .tc := ⟨.hbm, 929, rfl⟩
abbrev main_call1_call5_v115 : Ref sig .tc := ⟨.hbm, 930, rfl⟩
abbrev main_call1_call5_v116 : Ref sig .tc := ⟨.hbm, 931, rfl⟩
abbrev main_call1_call5_v117 : Ref sig .tc := ⟨.hbm, 932, rfl⟩
abbrev main_call1_call5_v118 : Ref sig .tc := ⟨.hbm, 933, rfl⟩
abbrev main_call1_call5_c_29 : Ref sig .tc := ⟨.hbm, 934, rfl⟩
abbrev main_call1_call5_v119 : Ref sig .tc := ⟨.hbm, 935, rfl⟩
abbrev main_call1_call5_v120 : Ref sig .tc := ⟨.hbm, 936, rfl⟩
abbrev main_call1_call5_c_30 : Ref sig .tc := ⟨.hbm, 937, rfl⟩
abbrev main_call1_call5_v121 : Ref sig .tc := ⟨.hbm, 938, rfl⟩
abbrev main_call1_call5_v122 : Ref sig .tc := ⟨.hbm, 939, rfl⟩
abbrev main_call1_call5_v123 : Ref sig .tc := ⟨.hbm, 940, rfl⟩
abbrev main_call1_call5_v124 : Ref sig .tc := ⟨.hbm, 941, rfl⟩
abbrev main_call1_call5_v125 : Ref sig .tc := ⟨.hbm, 942, rfl⟩
abbrev main_call1_call5_c_31 : Ref sig .tc := ⟨.hbm, 943, rfl⟩
abbrev main_call1_call5_v126 : Ref sig .tc := ⟨.hbm, 944, rfl⟩
abbrev main_call1_call5_v127 : Ref sig .tc := ⟨.hbm, 945, rfl⟩
abbrev main_call1_call5_c_32 : Ref sig .tc := ⟨.hbm, 946, rfl⟩
abbrev main_call1_call5_v128 : Ref sig .tc := ⟨.hbm, 947, rfl⟩
abbrev main_call1_call5_v129 : Ref sig .tc := ⟨.hbm, 948, rfl⟩
abbrev main_call1_call5_v130 : Ref sig .tc := ⟨.hbm, 949, rfl⟩
abbrev main_call1_call5_v131 : Ref sig .tc := ⟨.hbm, 950, rfl⟩
abbrev main_call1_call5_v132 : Ref sig .tc := ⟨.hbm, 951, rfl⟩
abbrev main_call1_call5_c_33 : Ref sig .tc := ⟨.hbm, 952, rfl⟩
abbrev main_call1_call5_v133 : Ref sig .tc := ⟨.hbm, 953, rfl⟩
abbrev main_call1_call5_v134 : Ref sig .tc := ⟨.hbm, 954, rfl⟩
abbrev main_call1_call5_c_34 : Ref sig .tc := ⟨.hbm, 955, rfl⟩
abbrev main_call1_call5_v135 : Ref sig .tc := ⟨.hbm, 956, rfl⟩
abbrev main_call1_call5_v136 : Ref sig .tc := ⟨.hbm, 957, rfl⟩
abbrev main_call1_call5_v137 : Ref sig .tc := ⟨.hbm, 958, rfl⟩
abbrev main_call1_call5_v138 : Ref sig .tc := ⟨.hbm, 959, rfl⟩
abbrev main_call1_call5_v139 : Ref sig .tc := ⟨.hbm, 960, rfl⟩
abbrev main_call1_call5_v140 : Ref sig .tc := ⟨.hbm, 961, rfl⟩
abbrev main_call1_call5_v141 : Ref sig .tc := ⟨.hbm, 962, rfl⟩
abbrev main_call1_call5_v142 : Ref sig .tc := ⟨.hbm, 963, rfl⟩
abbrev main_call1_call5_c_35 : Ref sig .tc := ⟨.hbm, 964, rfl⟩
abbrev main_call1_call5_v143 : Ref sig .tc := ⟨.hbm, 965, rfl⟩
abbrev main_call1_call5_v144 : Ref sig .tc := ⟨.hbm, 966, rfl⟩
abbrev main_call1_call5_v145 : Ref sig .tc := ⟨.hbm, 967, rfl⟩
abbrev main_call1_call5_c_36 : Ref sig .tc := ⟨.hbm, 968, rfl⟩
abbrev main_call1_call5_v146 : Ref sig .tc := ⟨.hbm, 969, rfl⟩
abbrev main_call1_call5_v147 : Ref sig .tc := ⟨.hbm, 970, rfl⟩
abbrev main_call1_call5_c_37 : Ref sig .tc := ⟨.hbm, 971, rfl⟩
abbrev main_call1_call5_v148 : Ref sig .tc := ⟨.hbm, 972, rfl⟩
abbrev main_call1_call5_v149 : Ref sig .tc := ⟨.hbm, 973, rfl⟩
abbrev main_call1_call5_v150 : Ref sig .tc := ⟨.hbm, 974, rfl⟩
abbrev main_call1_call5_v151 : Ref sig .tc := ⟨.hbm, 975, rfl⟩
abbrev main_call1_call5_v152 : Ref sig .tc := ⟨.hbm, 976, rfl⟩
abbrev main_call1_call5_c_38 : Ref sig .tc := ⟨.hbm, 977, rfl⟩
abbrev main_call1_call5_v153 : Ref sig .tc := ⟨.hbm, 978, rfl⟩
abbrev main_call1_call5_v154 : Ref sig .tc := ⟨.hbm, 979, rfl⟩
abbrev main_call1_call5_c_39 : Ref sig .tc := ⟨.hbm, 980, rfl⟩
abbrev main_call1_call5_v155 : Ref sig .tc := ⟨.hbm, 981, rfl⟩
abbrev main_call1_call5_v156 : Ref sig .tc := ⟨.hbm, 982, rfl⟩
abbrev main_call1_call5_v157 : Ref sig .tc := ⟨.hbm, 983, rfl⟩
abbrev main_call1_call5_v158 : Ref sig .tc := ⟨.hbm, 984, rfl⟩
abbrev main_call1_call5_v159 : Ref sig .tc := ⟨.hbm, 985, rfl⟩
abbrev main_call1_call5_c_40 : Ref sig .tc := ⟨.hbm, 986, rfl⟩
abbrev main_call1_call5_v160 : Ref sig .tc := ⟨.hbm, 987, rfl⟩
abbrev main_call1_call5_v161 : Ref sig .tc := ⟨.hbm, 988, rfl⟩
abbrev main_call1_call5_c_41 : Ref sig .tc := ⟨.hbm, 989, rfl⟩
abbrev main_call1_call5_v162 : Ref sig .tc := ⟨.hbm, 990, rfl⟩
abbrev main_call1_call5_v163 : Ref sig .tc := ⟨.hbm, 991, rfl⟩
abbrev main_call1_call5_v164 : Ref sig .tc := ⟨.hbm, 992, rfl⟩
abbrev main_call1_call5_v165 : Ref sig .tc := ⟨.hbm, 993, rfl⟩
abbrev main_call1_call5_v166 : Ref sig .tc := ⟨.hbm, 994, rfl⟩
abbrev main_call1_call5_c_42 : Ref sig .tc := ⟨.hbm, 995, rfl⟩
abbrev main_call1_call5_v167 : Ref sig .tc := ⟨.hbm, 996, rfl⟩
abbrev main_call1_call5_v168 : Ref sig .tc := ⟨.hbm, 997, rfl⟩
abbrev main_call1_call5_c_43 : Ref sig .tc := ⟨.hbm, 998, rfl⟩
abbrev main_call1_call5_v169 : Ref sig .tc := ⟨.hbm, 999, rfl⟩
abbrev main_call1_call5_v170 : Ref sig .tc := ⟨.hbm, 1000, rfl⟩
abbrev main_call1_call5_v171 : Ref sig .tc := ⟨.hbm, 1001, rfl⟩
abbrev main_call1_call5_v172 : Ref sig .tc := ⟨.hbm, 1002, rfl⟩
abbrev main_call1_call5_v173 : Ref sig .tc := ⟨.hbm, 1003, rfl⟩
abbrev main_call1_v45_0 : Ref sig .tc := ⟨.hbm, 1004, rfl⟩
abbrev main_call1_call5_v175 : Ref sig .tc := ⟨.hbm, 1005, rfl⟩
abbrev main_call1_call5_v176 : Ref sig .tc := ⟨.hbm, 1006, rfl⟩
abbrev main_call1_call5_c_44 : Ref sig .tc := ⟨.hbm, 1007, rfl⟩
abbrev main_call1_call5_v177 : Ref sig .tc := ⟨.hbm, 1008, rfl⟩
abbrev main_call1_v45_1 : Ref sig .tc := ⟨.hbm, 1009, rfl⟩
abbrev main_call1_v46 : Ref sig .tc := ⟨.hbm, 1010, rfl⟩
abbrev main_call1_v47 : Ref sig .tc := ⟨.hbm, 1011, rfl⟩
abbrev main_call1_v48 : Ref sig .tc := ⟨.hbm, 1012, rfl⟩
abbrev main_call1_v49 : Ref sig .tc := ⟨.hbm, 1013, rfl⟩
abbrev main_call1_c_10 : Ref sig .tc := ⟨.hbm, 1014, rfl⟩
abbrev main_call1_v50 : Ref sig .tc := ⟨.hbm, 1015, rfl⟩
abbrev main_call1_v51 : Ref sig .tc := ⟨.hbm, 1016, rfl⟩
abbrev main_call1_v52 : Ref sig .tc := ⟨.hbm, 1017, rfl⟩
abbrev main_call1_v53 : Ref sig .tc := ⟨.hbm, 1018, rfl⟩
abbrev main_call1_v54 : Ref sig .tc := ⟨.hbm, 1019, rfl⟩
abbrev main_call1_c_11 : Ref sig .tc := ⟨.hbm, 1020, rfl⟩
abbrev main_call1_v55 : Ref sig .tc := ⟨.hbm, 1021, rfl⟩
abbrev main_call1_v56 : Ref sig .tc := ⟨.hbm, 1022, rfl⟩
abbrev main_call1_v57 : Ref sig .tc := ⟨.hbm, 1023, rfl⟩
abbrev main_call1_c_12 : Ref sig .tc := ⟨.hbm, 1024, rfl⟩
abbrev main_call1_v58 : Ref sig .tc := ⟨.hbm, 1025, rfl⟩
abbrev main_call1_v59 : Ref sig .tc := ⟨.hbm, 1026, rfl⟩
abbrev main_call1_v60 : Ref sig .tc := ⟨.hbm, 1027, rfl⟩
abbrev main_call1_v61 : Ref sig .tc := ⟨.hbm, 1028, rfl⟩
abbrev main_call1_v62 : Ref sig .tc := ⟨.hbm, 1029, rfl⟩
abbrev main_call1_v63 : Ref sig .tc := ⟨.hbm, 1030, rfl⟩
abbrev main_call1_v64 : Ref sig .tc := ⟨.hbm, 1031, rfl⟩
abbrev main_call1_v65 : Ref sig .tc := ⟨.hbm, 1032, rfl⟩
abbrev main_call1_v66 : Ref sig .tc := ⟨.hbm, 1033, rfl⟩
abbrev main_call1_v67 : Ref sig .tc := ⟨.hbm, 1034, rfl⟩
abbrev main_call1_v68 : Ref sig .tc := ⟨.hbm, 1035, rfl⟩
abbrev main_call1_v69 : Ref sig .tc := ⟨.hbm, 1036, rfl⟩
abbrev main_call1_v70 : Ref sig .tc := ⟨.hbm, 1037, rfl⟩
abbrev main_call1_v71 : Ref sig .tc := ⟨.hbm, 1038, rfl⟩
abbrev main_call1_v72 : Ref sig .tc := ⟨.hbm, 1039, rfl⟩
abbrev main_call1_v73 : Ref sig .tc := ⟨.hbm, 1040, rfl⟩
abbrev main_call1_v74 : Ref sig .tc := ⟨.hbm, 1041, rfl⟩
abbrev main_call1_v75 : Ref sig .tc := ⟨.hbm, 1042, rfl⟩
abbrev main_call1_v76 : Ref sig .tc := ⟨.hbm, 1043, rfl⟩
abbrev main_call1_v77 : Ref sig .tc := ⟨.hbm, 1044, rfl⟩
abbrev main_v13 : Ref sig .tc := ⟨.hbm, 1045, rfl⟩
abbrev main_v14 : Ref sig .tc := ⟨.hbm, 1046, rfl⟩
abbrev main_c_5 : Ref sig .tc := ⟨.hbm, 1047, rfl⟩
abbrev main_v15 : Ref sig .tc := ⟨.hbm, 1048, rfl⟩
abbrev main_v16 : Ref sig .tc := ⟨.hbm, 1049, rfl⟩
abbrev main_call2_v0 : Ref sig .tc := ⟨.hbm, 1050, rfl⟩
abbrev main_call2_v1 : Ref sig .tc := ⟨.hbm, 1051, rfl⟩
abbrev main_call2_v2 : Ref sig .tc := ⟨.hbm, 1052, rfl⟩
abbrev main_call2_v3 : Ref sig .tc := ⟨.hbm, 1053, rfl⟩
abbrev main_call2_v4 : Ref sig .tc := ⟨.hbm, 1054, rfl⟩
abbrev main_v17 : Ref sig .tc := ⟨.hbm, 1055, rfl⟩

abbrev nD : Nat := 1
abbrev τ : Topo := Topo.v7x

variable {F : FTy → Type} [FloatOps F]
-- ==== Proof.Line.lean ====
/- Straight lines of host operations, read as equations between the buffers at the end.

   A host program that writes every buffer once, and reads only buffers written before, leaves contents at which every
   operation's equation holds. `Sat X p` says that the contents `X` fulfil the equations of `p`'s operations; `Line lo hi p`
   says that `p` is such a program whose results lie at the places `lo` up to `hi`. -/
module

public import Idealize.ShloMosaic.Lib.StableHlo.Run

@[expose] public section

noncomputable section

namespace Cert.Line

open Idealize.ShloMosaic Idealize.ShloMosaic.StableHlo Idealize.SL.Sem Idealize.ShloMosaic.TcCoe

variable {nD : Nat} {τ : Topo} {sig : RefSig} {Val : EltTy → Type} {Λ : Labels}

/-- What one request of a program says at the contents `X`, of what its continuation says: an operation's equation, and
    then the continuation's. -/
def SatStep (X : Valuation τ sig Val) : {β : Type} → TpuEff nD τ sig Val Λ .tc β → (β → Prop) → Prop
  | _, .hloBegin _ op, K => op.result X = X ∧ K ⟨⟩
  | _, .hloEnd _ _, K => K fun b => X b.1
  | _, _, _ => False

/-- The equations of the operations that a program runs, at the contents `X`. -/
def Sat (X : Valuation τ sig Val) {α : Type} : Prog (TpuEff nD τ sig Val Λ .tc) α → Prop
  | .ret _ => True
  | .op e k => SatStep X e fun b => Sat X (k b)

variable {X : Valuation τ sig Val}

theorem SatStep.iff_and {β : Type} (e : TpuEff nD τ sig Val Λ .tc β) {K K' : β → Prop} {P : Prop} (hK : ∀ b, K' b ↔ K b ∧ P) :
    SatStep X e K' ↔ SatStep X e K ∧ P := by
  cases e <;> first | exact hK _ | exact (and_congr_right fun _ => hK _).trans (and_assoc).symm | exact ⟨fun h => h.elim, fun h => h.1.elim⟩

/-- A program run before another says its own equations and the other's. -/
theorem sat_bind {α : Type} (p : Prog (TpuEff nD τ sig Val Λ .tc) PUnit) (k : PUnit → Prog (TpuEff nD τ sig Val Λ .tc) α) :
    Sat X (p >>= k) ↔ Sat X p ∧ Sat X (k ⟨⟩) := by
  suffices H : ∀ {γ : Type} (p : Prog (TpuEff nD τ sig Val Λ .tc) γ) (k : γ → Prog (TpuEff nD τ sig Val Λ .tc) α) (P : Prop),
      (∀ a, Sat X (k a) ↔ P) → (Sat X (p >>= k) ↔ Sat X p ∧ P) from H p k _ fun _ => Iff.rfl
  intro γ p
  induction p with
  | ret a => exact fun k P h => (h a).trans (iff_of_eq (true_and P)).symm
  | op e c ih => exact fun k P h => SatStep.iff_and e fun b => ih b k P h

theorem sat_ret : Sat X (Prog.ret ⟨⟩ : Prog (TpuEff nD τ sig Val Λ .tc) PUnit) ↔ True := Iff.rfl
theorem sat_pure : Sat X (pure ⟨⟩ : Prog (TpuEff nD τ sig Val Λ .tc) PUnit) ↔ True := Iff.rfl

/-- One operation's equation. -/
theorem sat_hlo (op : HloOp τ sig Val) (hp) :
    Sat X (hlo hp op fun _ => .ret (⟨⟩ : PUnit) : Prog (TpuEff nD τ sig Val Λ .tc) PUnit) ↔ op.result X = X :=
  ⟨fun h => h.1, fun h => ⟨h, trivial⟩⟩

/-- Where a buffer stands among the buffers of its space. -/
def pos (r : Ref sig .tc) : ℕ := r.idx.val

theorem ne_of_pos {a b : Ref sig .tc} (h : pos a < pos b) : a ≠ b := fun e => absurd (e ▸ h) (lt_irrefl _)

/-- A line of host operations whose results stand at `lo`, …, below `hi`, in order, each reading earlier places only. -/
def Line (lo hi : ℕ) (p : Prog (TpuEff nD τ sig Val Λ .tc) PUnit) : Prop :=
  lo ≤ hi ∧ ∃ ops : List (HloOp τ sig Val), p = seq ops ∧ (∀ op ∈ ops, op.bufs ⊆ tcRefs τ sig) ∧ (∀ op ∈ ops, op.fresh = ∅)
    ∧ (∀ op ∈ ops, ∀ r : Ref sig .tc, pos r < lo → Proc.devRef .tc r ∉ op.writes)
    ∧ ∀ V Y : Valuation τ sig Val, (∀ r : Ref sig .tc, pos r < hi → Y (Proc.devRef .tc r) = after ops V (Proc.devRef .tc r)) → Sat Y p

theorem Line.mono {lo hi lo' hi' : ℕ} {p : Prog (TpuEff nD τ sig Val Λ .tc) PUnit} (h : Line lo hi p) (h1 : lo' ≤ lo) (h2 : hi ≤ hi') :
    Line lo' hi' p := by
  obtain ⟨hl, ops, e, hb, hf, hw, hs⟩ := h
  exact ⟨h1.trans (hl.trans h2), ops, e, hb, hf, fun op ho r hr => hw op ho r (lt_of_lt_of_le hr h1), fun V Y hY => hs V Y fun r hr => hY r (lt_of_lt_of_le hr h2)⟩

theorem line_pure (lo : ℕ) : Line lo lo (pure ⟨⟩ : Prog (TpuEff nD τ sig Val Λ .tc) PUnit) :=
  ⟨le_rfl, [], rfl, fun _ h => (nomatch h), fun _ h => (nomatch h), fun _ h => (nomatch h), fun _ _ _ => trivial⟩

theorem line_bind {lo mid hi : ℕ} {p : Prog (TpuEff nD τ sig Val Λ .tc) PUnit} {k : PUnit → Prog (TpuEff nD τ sig Val Λ .tc) PUnit}
    (hp : Line lo mid p) (hk : Line mid hi (k ⟨⟩)) : Line lo hi (p >>= k) := by
  obtain ⟨hl, o₁, e₁, hb₁, hf₁, hw₁, hs₁⟩ := hp
  obtain ⟨hm, o₂, e₂, hb₂, hf₂, hw₂, hs₂⟩ := hk
  refine ⟨hl.trans hm, o₁ ++ o₂, ?_, ?_, ?_, ?_, ?_⟩
  · rw [seq_append, ← e₁, ← e₂]
  · exact fun op ho => (List.mem_append.mp ho).elim (hb₁ op) (hb₂ op)
  · exact fun op ho => (List.mem_append.mp ho).elim (hf₁ op) (hf₂ op)
  · exact fun op ho r hr => (List.mem_append.mp ho).elim (fun h => hw₁ op h r hr) (fun h => hw₂ op h r (lt_of_lt_of_le hr hl))
  · intro V Y hY
    have hap : after (o₁ ++ o₂) V = after o₂ (after o₁ V) := by
      clear hY hs₁ hs₂ hw₁ hw₂ hf₁ hf₂ hb₁ hb₂ e₁ e₂
      induction o₁ generalizing V with
      | nil => rfl
      | cons op ops ih => exact ih _
    rw [hap] at hY
    refine (sat_bind _ _).mpr ⟨hs₁ V Y fun r hr => ?_, hs₂ _ Y hY⟩
    rw [hY r (lt_of_lt_of_le hr hm)]
    exact after_of_forall_not_mem o₂ _ fun op ho => hw₂ op ho r hr

/-- One operation: it writes `y` and what it computes there reads earlier places. -/
theorem line_op {lo : ℕ} {hp : ((Proc.tc : Proc τ)).kind.runsHlo = true} (op : HloOp τ sig Val) (y : Ref sig .tc) (hw : op.writes = {Proc.devRef .tc y})
    (hb : op.bufs ⊆ tcRefs τ sig) (hf : op.fresh = ∅) (hle : lo ≤ pos y)
    (hr : ∀ V Y : Valuation τ sig Val, (∀ r : Ref sig .tc, pos r < pos y → Y (Proc.devRef .tc r) = V (Proc.devRef .tc r)) →
      op.result Y (Proc.devRef .tc y) = op.result V (Proc.devRef .tc y)) :
    Line lo (pos y + 1) (hlo hp op fun _ => .ret (⟨⟩ : PUnit) : Prog (TpuEff nD τ sig Val Λ .tc) PUnit) := by
  have hhi : pos y < pos y + 1 := Nat.lt_succ_self _
  refine ⟨hle.trans hhi.le, [op], rfl, ?_, ?_, ?_, ?_⟩
  · intro o ho; cases List.mem_singleton.mp ho; exact hb
  · intro o ho; cases List.mem_singleton.mp ho; exact hf
  · intro o ho r h; cases List.mem_singleton.mp ho
    rw [hw, Finset.mem_singleton]
    exact devRef_ne_of_ne (ne_of_pos (lt_of_lt_of_le h hle))
  · intro V Y hY
    refine (sat_hlo op _).mpr (funext fun b => ?_)
    by_cases hby : b = Proc.devRef .tc y
    · subst hby
      rw [hY y hhi, after_cons, after_nil]
      refine hr V Y fun r h => ?_
      rw [hY r (h.trans hhi), after_cons, after_nil, op.result_of_not_mem]
      rw [hw, Finset.mem_singleton]
      exact devRef_ne_of_ne (ne_of_pos h)
    · exact op.result_of_not_mem _ (by rw [hw, Finset.mem_singleton]; exact hby)

section Builders

variable {lo hi : ℕ} {hp : ((Proc.tc : Proc τ)).kind.runsHlo = true} (x a b c y : Ref sig .tc)

theorem line_nullary (v : y.ty.Contents Val) (hy) (h : lo ≤ pos y) :
    Line lo (pos y + 1) (hlo hp (nullary y v hy) fun _ => .ret (⟨⟩ : PUnit) : Prog (TpuEff nD τ sig Val Λ .tc) PUnit) :=
  line_op _ y rfl (nullary_bufs_sub y v hy) rfl h fun V Y _ => by rw [nullary_result, nullary_result]

theorem line_unary (f : x.ty.Contents Val → y.ty.Contents Val) (hx hy) (h : lo ≤ pos y ∧ pos x < pos y) :
    Line lo (pos y + 1) (hlo hp (unary x y f hx hy) fun _ => .ret (⟨⟩ : PUnit) : Prog (TpuEff nD τ sig Val Λ .tc) PUnit) :=
  line_op _ y rfl (unary_bufs_sub x y f hx hy) rfl h.1 fun V Y e => by
    rw [unary_result, unary_result, e x h.2]

theorem line_binary (f : a.ty.Contents Val → b.ty.Contents Val → y.ty.Contents Val) (ha hb hy)
    (h : lo ≤ pos y ∧ pos a < pos y ∧ pos b < pos y) :
    Line lo (pos y + 1) (hlo hp (binary a b y f ha hb hy) fun _ => .ret (⟨⟩ : PUnit) : Prog (TpuEff nD τ sig Val Λ .tc) PUnit) :=
  line_op _ y rfl (binary_bufs_sub a b y f ha hb hy) rfl h.1 fun V Y e => by
    rw [binary_result, binary_result, e a h.2.1, e b h.2.2]

theorem line_ternary (f : c.ty.Contents Val → a.ty.Contents Val → b.ty.Contents Val → y.ty.Contents Val) (hc ha hb hy)
    (h : lo ≤ pos y ∧ pos c < pos y ∧ pos a < pos y ∧ pos b < pos y) :
    Line lo (pos y + 1) (hlo hp (ternary c a b y f hc ha hb hy) fun _ => .ret (⟨⟩ : PUnit) : Prog (TpuEff nD τ sig Val Λ .tc) PUnit) :=
  line_op _ y rfl (ternary_bufs_sub a b c y f hc ha hb hy) rfl h.1 fun V Y e => by
    rw [ternary_result, ternary_result, e c h.2.1, e a h.2.2.1, e b h.2.2.2]

theorem line_reshape (he hn hx hy) (h : lo ≤ pos y ∧ pos x < pos y) :
    Line lo (pos y + 1) (hlo hp (reshape (Val := Val) x y he hn hx hy) fun _ => .ret (⟨⟩ : PUnit) : Prog (TpuEff nD τ sig Val Λ .tc) PUnit) :=
  line_op _ y rfl (reshape_bufs_sub x y he hn hx hy) rfl h.1 fun V Y e => by
    rw [reshape_result, reshape_result, e x h.2]

variable {k : PUnit → Prog (TpuEff nD τ sig Val Λ .tc) PUnit}

theorem line_nullary_bind (v : y.ty.Contents Val) (hy) (h : lo ≤ pos y) (hk : Line (pos y + 1) hi (k ⟨⟩)) :
    Line lo hi ((hlo hp (nullary y v hy) fun _ => .ret (⟨⟩ : PUnit) : Prog (TpuEff nD τ sig Val Λ .tc) PUnit) >>= k) :=
  line_bind (line_nullary y v hy h) hk

theorem line_unary_bind (f : x.ty.Contents Val → y.ty.Contents Val) (hx hy) (h : lo ≤ pos y ∧ pos x < pos y)
    (hk : Line (pos y + 1) hi (k ⟨⟩)) :
    Line lo hi ((hlo hp (unary x y f hx hy) fun _ => .ret (⟨⟩ : PUnit) : Prog (TpuEff nD τ sig Val Λ .tc) PUnit) >>= k) :=
  line_bind (line_unary x y f hx hy h) hk

theorem line_binary_bind (f : a.ty.Contents Val → b.ty.Contents Val → y.ty.Contents Val) (ha hb hy)
    (h : lo ≤ pos y ∧ pos a < pos y ∧ pos b < pos y) (hk : Line (pos y + 1) hi (k ⟨⟩)) :
    Line lo hi ((hlo hp (binary a b y f ha hb hy) fun _ => .ret (⟨⟩ : PUnit) : Prog (TpuEff nD τ sig Val Λ .tc) PUnit) >>= k) :=
  line_bind (line_binary a b y f ha hb hy h) hk

theorem line_ternary_bind (f : c.ty.Contents Val → a.ty.Contents Val → b.ty.Contents Val → y.ty.Contents Val) (hc ha hb hy)
    (h : lo ≤ pos y ∧ pos c < pos y ∧ pos a < pos y ∧ pos b < pos y) (hk : Line (pos y + 1) hi (k ⟨⟩)) :
    Line lo hi ((hlo hp (ternary c a b y f hc ha hb hy) fun _ => .ret (⟨⟩ : PUnit) : Prog (TpuEff nD τ sig Val Λ .tc) PUnit) >>= k) :=
  line_bind (line_ternary a b c y f hc ha hb hy h) hk

theorem line_reshape_bind (he hn hx hy) (h : lo ≤ pos y ∧ pos x < pos y) (hk : Line (pos y + 1) hi (k ⟨⟩)) :
    Line lo hi ((hlo hp (reshape (Val := Val) x y he hn hx hy) fun _ => .ret (⟨⟩ : PUnit) : Prog (TpuEff nD τ sig Val Λ .tc) PUnit) >>= k) :=
  line_bind (line_reshape x y he hn hx hy h) hk

end Builders

/-! ## Reading typed references -/

section Read

variable {T Tx Ta Tb Tc Ty : BufTy}

/-- What a typed reference's buffer holds, at its type. -/
def rd (X : Valuation τ sig Val) (x : TRef sig T) : T.Contents Val := x.ofBuf (X (Proc.devRef .tc x.ref))

theorem rd_toBuf (x : TRef sig T) (v : T.Contents Val) : x.ofBuf (x.toBuf v) = v := by
  obtain ⟨r, rfl, _, _⟩ := x; rfl

theorem rd_of_eq {y : TRef sig T} {v : T.Contents Val} (h : y.toBuf v = X (Proc.devRef .tc y.ref)) : rd X y = v := by
  rw [rd, ← h, rd_toBuf]

theorem rd_nullary {y : TRef sig Ty} {v : Ty.Contents Val} (h : (TRef.nullary y v : HloOp τ sig Val).result X = X) : rd X y = v :=
  rd_of_eq ((nullary_result _ _ y.dev X).symm.trans (congrFun h _))

theorem rd_unary {x : TRef sig Tx} {y : TRef sig Ty} {f : Tx.Contents Val → Ty.Contents Val}
    (h : (TRef.unary x y f : HloOp τ sig Val).result X = X) : rd X y = f (rd X x) :=
  rd_of_eq ((unary_result _ _ _ x.dev y.dev X).symm.trans (congrFun h _))

theorem rd_binary {a : TRef sig Ta} {b : TRef sig Tb} {y : TRef sig Ty} {f : Ta.Contents Val → Tb.Contents Val → Ty.Contents Val}
    (h : (TRef.binary a b y f : HloOp τ sig Val).result X = X) : rd X y = f (rd X a) (rd X b) :=
  rd_of_eq ((binary_result _ _ _ _ a.dev b.dev y.dev X).symm.trans (congrFun h _))

theorem rd_ternary {c : TRef sig Tc} {a : TRef sig Ta} {b : TRef sig Tb} {y : TRef sig Ty}
    {f : Tc.Contents Val → Ta.Contents Val → Tb.Contents Val → Ty.Contents Val}
    (h : (TRef.ternary c a b y f : HloOp τ sig Val).result X = X) : rd X y = f (rd X c) (rd X a) (rd X b) :=
  rd_of_eq ((ternary_result _ _ _ _ _ c.dev a.dev b.dev y.dev X).symm.trans (congrFun h _))

theorem reshape_cast {E : EltTy} {s t : Shape} {U W : BufTy} (hU : U = ⟨s, E⟩) (hW : W = ⟨t, E⟩) (v : U.Contents Val)
    (he : U.elt = W.elt) (hn' : U.shape.ShapeCasts W.shape) (hn : s.ShapeCasts t) :
    cast (congrArg (fun U : BufTy => U.Contents Val) hW) ((fun i => he ▸ shapeCast W.shape v hn' i : W.Contents Val))
      = shapeCast t (cast (congrArg (fun U : BufTy => U.Contents Val) hU) v : (⟨s, E⟩ : BufTy).Contents Val) hn := by
  subst hU; subst hW; rfl

theorem rd_reshape {E : EltTy} {s t : Shape} {x : TRef sig ⟨s, E⟩} {y : TRef sig ⟨t, E⟩} {he : E = E} {hn : s.ShapeCasts t}
    (h : (TRef.reshape x y he hn : HloOp τ sig Val).result X = X) : rd X y = shapeCast t (rd X x) hn := by
  have h' := (reshape_result _ _ _ _ x.dev y.dev X).symm.trans (congrFun h _)
  rw [rd, ← h']
  exact reshape_cast x.ty_eq y.ty_eq _ _ _ hn

end Read

end Cert.Line

end
-- ==== Proof.RefLine.lean ====
/- The reference is a straight line: every buffer is written once, in the order of its index. -/
module

public import proofs.«01_k».proof.Defs
public import proofs.«01_k».proof.Proof.Gen.ReferenceIdeal
public import proofs.«01_k».proof.Proof.Line
public import Idealize.ShloMosaic.Lib.Quiescent

@[expose] public section

set_option maxRecDepth 4000

noncomputable section

namespace Cert.RefLine

open Idealize.ShloMosaic Idealize.ShloMosaic.StableHlo Idealize.SL.Sem Cert.ReferenceIdeal Cert.Line

attribute [local instance] Cert.ReferenceIdeal.Gen.facts

-- an operation is compared with a lemma's by its builder, and a called function is opened where it is called only
attribute [local irreducible] StableHlo.nullary StableHlo.unary StableHlo.binary StableHlo.ternary StableHlo.reshape
  fn_threefry_fold_in.body fn_randint.body fn_randint.body_part0 fn_randint.body_part1
  fn_clip.body fn_clip_0.body fn_threefry_split.body fn_one_hot.body
  fn_threefry2x32.body fn_threefry2x32.body_part0 fn_threefry2x32.body_part1 fn_threefry2x32.body_part2
  fn_threefry2x32.body_part3 fn_threefry2x32_1.body fn_threefry2x32_1.body_part0 fn_threefry2x32_1.body_part1
  fn_threefry2x32_1.body_part2 fn_threefry2x32_1.body_part3 fn_threefry2x32_2.body fn_threefry2x32_2.body_part0
  fn_threefry2x32_2.body_part1 fn_threefry2x32_2.body_part2 fn_threefry2x32_2.body_part3

set_option maxHeartbeats 8000000 in
theorem line_main (d : Dev nD) : ∃ hi, Line 1 hi (main (F := Ideal) d) := by
  apply Exists.intro
  unfold main
  repeat first
    | (apply line_binary_bind; · decide +kernel)
    | (apply line_unary_bind; · decide +kernel)
    | (apply line_nullary_bind; · decide +kernel)
    | (apply line_reshape_bind; · decide +kernel)
    | (apply line_ternary_bind; · decide +kernel)
    | with_reducible apply line_bind
    | apply line_pure
    | unfold fn_threefry_fold_in.body
    | unfold fn_randint.body
    | unfold fn_randint.body_part0
    | unfold fn_randint.body_part1
    | unfold fn_clip.body
    | unfold fn_clip_0.body
    | unfold fn_threefry_split.body
    | unfold fn_one_hot.body
    | unfold fn_threefry2x32.body
    | unfold fn_threefry2x32.body_part0
    | unfold fn_threefry2x32.body_part1
    | unfold fn_threefry2x32.body_part2
    | unfold fn_threefry2x32.body_part3
    | unfold fn_threefry2x32_1.body
    | unfold fn_threefry2x32_1.body_part0
    | unfold fn_threefry2x32_1.body_part1
    | unfold fn_threefry2x32_1.body_part2
    | unfold fn_threefry2x32_1.body_part3
    | unfold fn_threefry2x32_2.body
    | unfold fn_threefry2x32_2.body_part0
    | unfold fn_threefry2x32_2.body_part1
    | unfold fn_threefry2x32_2.body_part2
    | unfold fn_threefry2x32_2.body_part3

/-- No buffer of the reference is scoped. -/
theorem scoped_refs : (Finset.univ.filter fun b : Ref sig .tc => b.isScoped) = ∅ := by decide +kernel

/-- Nor is any semaphore: it has none. -/
theorem scoped_sems : (Finset.univ.filter fun sm : SemLoc sig => sm.isScoped .tc) = ∅ := by decide +kernel

/-- The reference reads its argument and never writes it: the argument stands before every result. -/
theorem pos_arg0 : pos main_arg0 < 1 := by decide +kernel

/-- Every run of the reference ends with contents that fulfil all its operations' equations, the argument as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ d : Dev nD,
      ∃ X : Valuation τ sig (Elt Ideal), Sat X (main (F := Ideal) d)
        ∧ (∀ b : Ref sig .tc, r.2.mem ((d.tc : Thread nD τ).loc b) = X (Proc.devRef .tc b))
        ∧ X (Proc.devRef .tc main_arg0) = m ((d.tc : Thread nD τ).loc main_arg0) := by
  choose hi hl ops he hb hf hw hs using fun d : Dev nD => line_main d
  refine (θ_run (defs (F := Ideal)) _ _).mono ?_ (run_seq scoped_refs scoped_sems (defs (F := Ideal)) (main (F := Ideal)) ops he
    (fun d => List.forall_iff_forall_mem.mpr (hb d)) m ρ hf)
  intro r h d
  refine ⟨after (ops d) (launchContents m d), hs d _ _ fun _ _ => rfl, h d, ?_⟩
  exact after_of_forall_not_mem _ _ fun op ho => hw d op ho _ pos_arg0

/-- The reference ends with every counter at zero and its argument as it was. -/
theorem quiescent : Cert.quiescent_ReferenceIdeal := by
  intro m ρ _
  refine (θ_run (defs (F := Ideal)) _ _).mono ?_ (run m ρ)
  intro r h
  refine ⟨fun d => ?_, sem_eq_zero_of_no_sems rfl r.2⟩
  obtain ⟨X, -, hX, ha⟩ := h d
  exact (hX main_arg0).trans ha

end Cert.RefLine

end
-- ==== Proof.Threefry.lean ====
/- The counter-based generator on one word pair, and its rounds on vectors and on the buffers of a host line. -/
module

public import proofs.«01_k».proof.Proof.Line
public import Idealize.ShloMosaic.Lib.ValueIdxCore
public import Idealize.ShloMosaic.PureOps.Ideal

@[expose] public section

noncomputable section

namespace Cert.Threefry

open Idealize.ShloMosaic Idealize.ShloMosaic.StableHlo Idealize.SL.Sem Cert.Line

/-- A 32-bit word. -/
abbrev W := BitVec 32

/-- One round: the second word is added to the first, turned left by `r` places (`s` are the places left over), and
    the new first word is put over it. -/
def rnd (r s : W) (p : W × W) : W × W :=
  (IntOp.addi p.1 p.2,
    IntOp.xori (IntOp.addi p.1 p.2) (IntOp.ori (IntOp.shli .vector p.2 r) (IntOp.shrui .vector p.2 s)))

/-- Key words `k`, `k'` added to the two words, and the number `n` of the injection to the second. -/
def inj (k k' n : W) (p : W × W) : W × W := (IntOp.addi p.1 k, IntOp.addi (IntOp.addi p.2 k') n)

/-- The rounds of even groups. -/
def even (p : W × W) : W × W := rnd 6#32 26#32 (rnd 26#32 6#32 (rnd 15#32 17#32 (rnd 13#32 19#32 p)))

/-- The rounds of odd groups. -/
def odd (p : W × W) : W × W := rnd 24#32 8#32 (rnd 16#32 16#32 (rnd 29#32 3#32 (rnd 17#32 15#32 p)))

/-- The third key word. -/
def key2 (k0 k1 : W) : W := IntOp.xori (IntOp.xori k0 k1) 466688986#32

/-- The generator's two words from a key of two words and a counter of two words. -/
def tf (k0 k1 x0 x1 : W) : W × W :=
  inj (key2 k0 k1) k0 5#32 (even (inj k1 (key2 k0 k1) 4#32 (odd (inj k0 k1 3#32 (even (inj (key2 k0 k1) k0 2#32 (odd
    (inj k1 (key2 k0 k1) 1#32 (even (IntOp.addi x0 k0, IntOp.addi x1 k1))))))))))

/-- The row's key: the seed folded into the key of the number 42. -/
def key (seed : W) : W × W := tf 0#32 42#32 0#32 seed

/-- One of the keys that a key is split into. -/
def part (k : W × W) (j : W) : W × W := tf k.1 k.2 0#32 j

/-- The random word of a key at a place. -/
def draw (k : W × W) (t : W) : W := IntOp.xori (tf k.1 k.2 0#32 t).1 (tf k.1 k.2 0#32 t).2

/-- A number below 999 from two random words. -/
def reduce999 (h l : W) : W := (h % 999#32 * 562#32 + l % 999#32) % 999#32

/-- The letter of a row's message at a place: a number from 1 to 999. -/
def letter (seed t : W) : W := 1#32 + reduce999 (draw (part (key seed) 0#32) t) (draw (part (key seed) 1#32) t)

/-! ## On the buffers of a host line -/

section Host

variable {nD : Nat} {Λ : Labels} {τ : Topo} {sig : RefSig} {X : Valuation τ sig (Elt Ideal)} {s sc : Shape} {R : Prop}

/-- The equation of one operation of a line at the contents `X`. -/
abbrev Op (nD : Nat) (Λ : Labels) (X : Valuation τ sig (Elt Ideal)) (op : HloOp τ sig (Elt Ideal)) : Prop :=
  Sat X (hlo rfl op fun _ => .ret (⟨⟩ : PUnit) : Prog (TpuEff nD τ sig (Elt Ideal) Λ .tc) PUnit)

theorem Op.eq {op : HloOp τ sig (Elt Ideal)} (h : Op nD Λ X op) : op.result X = X := (sat_hlo op _).mp h

variable {Ta Tb Tc Ty : BufTy}

/-- What a constant's equation says. -/
theorem opN {y : TRef sig Ty} {v : BufTy.Contents (Elt Ideal) Ty} (h : Op nD Λ X (TRef.nullary y v)) : rd X y = v := rd_nullary h.eq
/-- What the equation of an operation on one buffer says. -/
theorem opU {a : TRef sig Ta} {y : TRef sig Ty} {f : BufTy.Contents (Elt Ideal) Ta → BufTy.Contents (Elt Ideal) Ty}
    (h : Op nD Λ X (TRef.unary a y f)) : rd X y = f (rd X a) := rd_unary h.eq
/-- What the equation of an operation on two buffers says. -/
theorem opB {a : TRef sig Ta} {b : TRef sig Tb} {y : TRef sig Ty}
    {f : BufTy.Contents (Elt Ideal) Ta → BufTy.Contents (Elt Ideal) Tb → BufTy.Contents (Elt Ideal) Ty}
    (h : Op nD Λ X (TRef.binary a b y f)) : rd X y = f (rd X a) (rd X b) := rd_binary h.eq
/-- What the equation of an operation on three buffers says. -/
theorem opT {c : TRef sig Tc} {a : TRef sig Ta} {b : TRef sig Tb} {y : TRef sig Ty}
    {f : BufTy.Contents (Elt Ideal) Tc → BufTy.Contents (Elt Ideal) Ta → BufTy.Contents (Elt Ideal) Tb → BufTy.Contents (Elt Ideal) Ty}
    (h : Op nD Λ X (TRef.ternary c a b y f)) : rd X y = f (rd X c) (rd X a) (rd X b) := rd_ternary h.eq
/-- What a reshape's equation says. -/
theorem opR {E : EltTy} {t : Shape} {x : TRef sig ⟨s, E⟩} {y : TRef sig ⟨t, E⟩} {he : E = E} {hn : s.ShapeCasts t}
    (h : Op nD Λ X (TRef.reshape x y he hn)) : rd X y = shapeCast t (rd X x) hn := rd_reshape h.eq

/-- The words of two buffers at one index. -/
def at2 (X : Valuation τ sig (Elt Ideal)) (i : s.Idx) (a b : TRef sig ⟨s, .i32⟩) : W × W := (rd X a i, rd X b i)

/-- The nine operations of a round. -/
theorem step (i : s.Idx) {x0 x1 y0 y1 bl l br t o : TRef sig ⟨s, .i32⟩} {cl cr : TRef sig ⟨sc, .i32⟩} {wl wr : W} {d e} {hd he}
    (h : Op nD Λ X (TRef.binary x0 x1 y0 addi)
      ∧ Op nD Λ X (TRef.nullary cl (constantI sc 32 wl))
      ∧ Op nD Λ X (TRef.unary cl bl (broadcastInDim s d hd))
      ∧ Op nD Λ X (TRef.binary x1 bl l Host.shli)
      ∧ Op nD Λ X (TRef.nullary cr (constantI sc 32 wr))
      ∧ Op nD Λ X (TRef.unary cr br (broadcastInDim s e he))
      ∧ Op nD Λ X (TRef.binary x1 br t Host.shrui)
      ∧ Op nD Λ X (TRef.binary l t o ori)
      ∧ Op nD Λ X (TRef.binary y0 o y1 xori) ∧ R) :
    at2 X i y0 y1 = rnd wl wr (at2 X i x0 x1) ∧ R := by
  obtain ⟨h1, h2, h3, h4, h5, h6, h7, h8, h9, hR⟩ := h
  refine ⟨?_, hR⟩
  have e1 := rd_binary h1.eq
  have e9 := rd_binary h9.eq
  rw [rd_binary h8.eq, rd_binary h4.eq, rd_binary h7.eq, rd_unary h3.eq, rd_unary h6.eq, rd_nullary h2.eq, rd_nullary h5.eq, e1] at e9
  unfold at2 rnd
  rw [e1, e9]
  show (_, IntOp.xori _ (IntOp.ori (IntOp.shli .host _ _) (IntOp.shrui .host _ _))) = _
  rw [ValueIdx.shli_host, ValueIdx.shrui_host]
  rfl

/-- The seven operations of an injection. -/
theorem inject (i : s.Idx) {T T' : BufTy} {x0 x1 y0 y1 b0 b1 z bn : TRef sig ⟨s, .i32⟩} {k : TRef sig T} {k' : TRef sig T'}
    {cn : TRef sig ⟨sc, .i32⟩} {n : W} {f : BufTy.Contents (Elt Ideal) T → BufTy.Contents (Elt Ideal) ⟨s, .i32⟩}
    {f' : BufTy.Contents (Elt Ideal) T' → BufTy.Contents (Elt Ideal) ⟨s, .i32⟩} {d} {hd}
    (h : Op nD Λ X (TRef.unary k b0 f)
      ∧ Op nD Λ X (TRef.binary x0 b0 y0 addi)
      ∧ Op nD Λ X (TRef.unary k' b1 f')
      ∧ Op nD Λ X (TRef.binary x1 b1 z addi)
      ∧ Op nD Λ X (TRef.nullary cn (constantI sc 32 n))
      ∧ Op nD Λ X (TRef.unary cn bn (broadcastInDim s d hd))
      ∧ Op nD Λ X (TRef.binary z bn y1 addi) ∧ R) :
    at2 X i y0 y1 = inj (f (rd X k) i) (f' (rd X k') i) n (at2 X i x0 x1) ∧ R := by
  obtain ⟨h1, h2, h3, h4, h5, h6, h7, hR⟩ := h
  refine ⟨?_, hR⟩
  have e7 := rd_binary h7.eq
  rw [rd_binary h4.eq, rd_unary h3.eq, rd_unary h6.eq, rd_nullary h5.eq] at e7
  unfold at2 inj
  rw [rd_binary h2.eq, rd_unary h1.eq, e7]
  rfl

/-- Four rounds of an even group. -/
theorem even_of {p0 p1 p2 p3 p4 : W × W} (h1 : p1 = rnd 13#32 19#32 p0) (h2 : p2 = rnd 15#32 17#32 p1) (h3 : p3 = rnd 26#32 6#32 p2)
    (h4 : p4 = rnd 6#32 26#32 p3) : p4 = even p0 := by rw [h4, h3, h2, h1]; rfl

/-- Four rounds of an odd group. -/
theorem odd_of {p0 p1 p2 p3 p4 : W × W} (h1 : p1 = rnd 17#32 15#32 p0) (h2 : p2 = rnd 29#32 3#32 p1) (h3 : p3 = rnd 16#32 16#32 p2)
    (h4 : p4 = rnd 24#32 8#32 p3) : p4 = odd p0 := by rw [h4, h3, h2, h1]; rfl

end Host

/-! ## On vectors -/

section Vector

variable {s : Shape}

/-- A round on whole vectors, the second word kept in place and the places given as vectors. -/
def vrnd (r t : W) (p : IVec s 32 × IVec s 32) : IVec s 32 × IVec s 32 :=
  (addi p.1 p.2, xori (addi p.1 p.2) (ori (shli p.2 (broadcast s r)) (shrui p.2 (broadcast s t))))

def vinj (k k' : IVec s 32) (n : W) (p : IVec s 32 × IVec s 32) : IVec s 32 × IVec s 32 :=
  (addi p.1 k, addi (addi p.2 k') (broadcast s n))

/-- The two words of a pair of vectors at one index. -/
def vat (i : s.Idx) (p : IVec s 32 × IVec s 32) : W × W := (p.1 i, p.2 i)

theorem vat_vrnd (i : s.Idx) (r t : W) (p : IVec s 32 × IVec s 32) : vat i (vrnd r t p) = rnd r t (vat i p) := rfl
theorem vat_vinj (i : s.Idx) (k k' : IVec s 32) (n : W) (p : IVec s 32 × IVec s 32) :
    vat i (vinj k k' n p) = inj (k i) (k' i) n (vat i p) := rfl

def veven (p : IVec s 32 × IVec s 32) : IVec s 32 × IVec s 32 :=
  vrnd 6#32 26#32 (vrnd 26#32 6#32 (vrnd 15#32 17#32 (vrnd 13#32 19#32 p)))
def vodd (p : IVec s 32 × IVec s 32) : IVec s 32 × IVec s 32 :=
  vrnd 24#32 8#32 (vrnd 16#32 16#32 (vrnd 29#32 3#32 (vrnd 17#32 15#32 p)))

theorem vat_veven (i : s.Idx) (p : IVec s 32 × IVec s 32) : vat i (veven p) = even (vat i p) := by
  unfold veven even; simp only [vat_vrnd]
theorem vat_vodd (i : s.Idx) (p : IVec s 32 × IVec s 32) : vat i (vodd p) = odd (vat i p) := by
  unfold vodd odd; simp only [vat_vrnd]

/-- The third key word, a vector of them. -/
def vkey2 (k0 k1 : IVec s 32) : IVec s 32 := xori (xori (broadcast s 466688986#32) k0) k1

theorem vkey2_at (i : s.Idx) (k0 k1 : IVec s 32) : vkey2 k0 k1 i = key2 (k0 i) (k1 i) := by
  show (466688986#32 ^^^ k0 i) ^^^ k1 i = (k0 i ^^^ k1 i) ^^^ 466688986#32
  rw [BitVec.xor_assoc, BitVec.xor_comm]

/-- The generator on vectors of keys and counters. -/
def vtf (k0 k1 x0 x1 : IVec s 32) : IVec s 32 × IVec s 32 :=
  vinj (vkey2 k0 k1) k0 5#32 (veven (vinj k1 (vkey2 k0 k1) 4#32 (vodd (vinj k0 k1 3#32 (veven (vinj (vkey2 k0 k1) k0 2#32 (vodd
    (vinj k1 (vkey2 k0 k1) 1#32 (veven (addi x0 k0, addi x1 k1))))))))))

theorem vat_vtf (i : s.Idx) (k0 k1 x0 x1 : IVec s 32) : vat i (vtf k0 k1 x0 x1) = tf (k0 i) (k1 i) (x0 i) (x1 i) := by
  unfold vtf tf
  simp only [vat_vinj, vat_veven, vat_vodd, vkey2_at]
  rfl

end Vector

end Cert.Threefry
-- ==== Proof.KerTf.lean ====
/- The kernel's words: its named values are the generator's, on whole vectors. -/
module

public import proofs.«01_k».proof.Proof.Gen.KernelIdeal.Frame
public import proofs.«01_k».proof.Proof.Threefry

@[expose] public section

set_option maxRecDepth 20000

noncomputable section

namespace Cert.KerTf

open Idealize.ShloMosaic Cert.KernelIdeal Cert.KernelIdeal.Gen Cert.Threefry

attribute [local instance] Cert.KernelIdeal.Gen.facts

/-- The row sums from the lanes' partial sums: the last three slices of eight lanes, then the eight lanes by pairs. -/
def sums (v31 : FVec Ideal S128x128 .f32) (v56 : FVec Ideal S128x8 .f32) : FVec Ideal S128x1 .f32 :=
  let b := addf (addf (addf v56 (extractStridedSlice S128x8 ![0, 104] v31 slices_S128x128_o0_104_S128x8))
    (extractStridedSlice S128x8 ![0, 112] v31 slices_S128x128_o0_112_S128x8)) (extractStridedSlice S128x8 ![0, 120] v31 slices_S128x128_o0_120_S128x8)
  addf (addf (addf (extractStridedSlice S128x1 ![0, 0] b slices_S128x8_o0_0_S128x1) (extractStridedSlice S128x1 ![0, 4] b slices_S128x8_o0_4_S128x1))
      (addf (extractStridedSlice S128x1 ![0, 2] b slices_S128x8_o0_2_S128x1) (extractStridedSlice S128x1 ![0, 6] b slices_S128x8_o0_6_S128x1)))
    (addf (addf (extractStridedSlice S128x1 ![0, 1] b slices_S128x8_o0_1_S128x1) (extractStridedSlice S128x1 ![0, 5] b slices_S128x8_o0_5_S128x1))
      (addf (extractStridedSlice S128x1 ![0, 3] b slices_S128x8_o0_3_S128x1) (extractStridedSlice S128x1 ![0, 7] b slices_S128x8_o0_7_S128x1)))

/-- The seeds of a block's rows. -/
def seeds (x0 : Vec Ideal S128x2048 .f32) : IVec S1x128 32 :=
  shapeCast S1x128 (fptosi 32 (mulf (sums (k0_pay237 x0) (k0_pay238 x0)) (broadcast S128x1 (Scalar.ofBits .f32 0x447A0000#32)))) shapeCasts_S128x1_S1x128

theorem first (x0 : Vec Ideal S128x2048 .f32) : k0_pay7 (k0_pay237 x0) (k0_pay238 x0) = addi (seeds x0) (broadcast S1x128 42#32) := rfl

attribute [local irreducible] seeds

/-- A row of one word repeated. -/
abbrev row (w : W) : IVec S1x128 32 := broadcast S1x128 w

/-! ## The rows' keys -/

section Keys

variable (x0 : Vec Ideal S128x2048 .f32) (k0 k1 ks : IVec S1x128 32) (p : IVec S1x128 32 × IVec S1x128 32)

/-- The words after two groups of rounds. -/
def keyA : IVec S1x128 32 × IVec S1x128 32 :=
  vinj (vkey2 (row 0#32) (row 42#32)) (row 0#32) 2#32 (vodd (vinj (row 42#32) (vkey2 (row 0#32) (row 42#32)) 1#32
    (veven (addi (row 0#32) (row 0#32), k0_pay7 (k0_pay237 x0) (k0_pay238 x0)))))

theorem keyA_snd : k0_pay246 x0 = (keyA x0).2 := rfl
theorem keyA_fst : k0_pay247 x0 = addi (keyA x0).1 (keyA x0).2 := rfl

theorem keyB_snd : k0_pay37 k0 k1 p.2 (addi p.1 p.2) 13#32 = (vrnd 29#32 3#32 (vrnd 17#32 15#32 (vinj k0 k1 3#32 (veven p)))).2 := rfl
theorem keyB_fst : k0_pay38 k0 k1 p.2 (addi p.1 p.2) 13#32
    = addi (vrnd 29#32 3#32 (vrnd 17#32 15#32 (vinj k0 k1 3#32 (veven p)))).1 (vrnd 29#32 3#32 (vrnd 17#32 15#32 (vinj k0 k1 3#32 (veven p)))).2 := rfl

theorem keyC_fst : k0_pay50 k1 ks p.2 (addi p.1 p.2) k0_pay39
    = (vinj ks k0 5#32 (veven (vinj k1 ks 4#32 (vrnd 24#32 8#32 (vrnd 16#32 16#32 p))))).1 := rfl
theorem keyC_snd : k0_pay53 (k0_pay51 k0 k1 ks p.2 (addi p.1 p.2) k0_pay39) k0_pay52
    = (vinj ks k0 5#32 (veven (vinj k1 ks 4#32 (vrnd 24#32 8#32 (vrnd 16#32 16#32 p))))).2 := rfl

theorem keys : (k0_pay251 x0, k0_pay254 x0) = vtf (row 0#32) (row 42#32) (row 0#32) (seeds x0) := by
  have e2 : k0_pay248 x0 = _ := (congrArg₂ (fun a b => k0_pay37 (row 0#32) (row 42#32) a b 13#32) (keyA_snd x0) (keyA_fst x0)).trans (keyB_snd _ _ _)
  have e1 : k0_pay249 x0 = _ := (congrArg₂ (fun a b => k0_pay38 (row 0#32) (row 42#32) a b 13#32) (keyA_snd x0) (keyA_fst x0)).trans (keyB_fst _ _ _)
  rw [show vtf (row 0#32) (row 42#32) (row 0#32) (seeds x0) = vinj (vkey2 (row 0#32) (row 42#32)) (row 0#32) 5#32 (veven
    (vinj (row 42#32) (vkey2 (row 0#32) (row 42#32)) 4#32 (vodd (vinj (row 0#32) (row 42#32) 3#32 (veven (keyA x0)))))) from by
      unfold vtf keyA; rw [first]]
  refine Prod.ext ?_ ?_
  · exact (congrArg₂ (fun a b => k0_pay50 (row 42#32) (vkey2 (row 0#32) (row 42#32)) a b k0_pay39) e2 e1).trans (keyC_fst (row 0#32) _ _ _)
  · exact (congrArg₂ (fun a b => k0_pay53 (k0_pay51 (row 0#32) (row 42#32) (vkey2 (row 0#32) (row 42#32)) a b k0_pay39) k0_pay52) e2 e1).trans
      (keyC_snd (row 0#32) _ _ _)

theorem key_snd : k0_pay254 x0 = k0_pay53 (k0_pay252 x0) (k0_pay253 x0) := rfl

end Keys

attribute [local irreducible] k0_pay251 k0_pay254

/-! ## The two keys each row's key is split into -/

section Parts

variable (x0 : Vec Ideal S128x2048 .f32) (k0 k1 ks z : IVec S1x128 32) (p : IVec S1x128 32 × IVec S1x128 32)

/-- The first key's words within the second group of rounds. -/
def firstA : IVec S1x128 32 × IVec S1x128 32 :=
  vrnd 17#32 15#32 (vinj k1 (vkey2 k0 k1) 1#32 (veven (addi z k0, addi z k1)))

theorem firstA_snd (a b) : k0_pay65 z k0 a b = (firstA k0 (k0_pay53 a b) z).2 := rfl
theorem firstA_fst (a b) : k0_pay66 z k0 a b = addi (firstA k0 (k0_pay53 a b) z).1 (firstA k0 (k0_pay53 a b) z).2 := rfl

/-- From there into the third group. -/
def firstB : IVec S1x128 32 × IVec S1x128 32 :=
  vrnd 26#32 6#32 (vrnd 15#32 17#32 (vrnd 13#32 19#32 (vinj ks k0 2#32 (vrnd 24#32 8#32 (vrnd 16#32 16#32 (vrnd 29#32 3#32 p))))))

theorem firstB_snd : k0_pay78 k0 ks p.2 (addi p.1 p.2) k0_pay67 = (firstB k0 ks p).2 := rfl
theorem firstB_fst : k0_pay79 k0 ks p.2 (addi p.1 p.2) k0_pay67 = addi (firstB k0 ks p).1 (firstB k0 ks p).2 := rfl
theorem firstB_shl : k0_pay80 k0 ks p.2 (addi p.1 p.2) k0_pay67 = shli (firstB k0 ks p).2 (broadcast S1x128 6#32) := rfl

/-- From there into the last group. -/
def firstC : IVec S1x128 32 × IVec S1x128 32 :=
  vrnd 13#32 19#32 (vinj k1 ks 4#32 (vodd (vinj k0 k1 3#32 (vrnd 6#32 26#32 p))))

theorem firstC_fst : k0_pay90 k0 k1 ks p.2 (addi p.1 p.2) (shli p.2 (broadcast S1x128 6#32)) = (firstC k0 k1 ks p).1 := rfl
theorem firstC_snd : k0_pay91 k0 k1 ks p.2 (addi p.1 p.2) (shli p.2 (broadcast S1x128 6#32)) = (firstC k0 k1 ks p).2 := rfl

theorem firstD_fst : k0_pay97 ks p.1 p.2 = (vinj ks k0 5#32 (vrnd 6#32 26#32 (vrnd 26#32 6#32 (vrnd 15#32 17#32 p)))).1 := rfl
theorem firstD_snd : k0_pay98 k0 p.1 p.2 = (vinj ks k0 5#32 (vrnd 6#32 26#32 (vrnd 26#32 6#32 (vrnd 15#32 17#32 p)))).2 := rfl

/-- The second key's words within the first group. -/
def secondA : IVec S1x128 32 × IVec S1x128 32 := vrnd 15#32 17#32 (vrnd 13#32 19#32 (addi z k0, addi (row 1#32) k1))

theorem secondA_snd : k0_pay104 z k0 k1 = (secondA k0 k1 z).2 := rfl
theorem secondA_fst : k0_pay105 z k0 k1 = addi (secondA k0 k1 z).1 (secondA k0 k1 z).2 := rfl

/-- From there to the end of the second group. -/
def secondB : IVec S1x128 32 × IVec S1x128 32 := vodd (vinj k1 ks 1#32 (vrnd 6#32 26#32 (vrnd 26#32 6#32 p)))

theorem secondB_fst : k0_pay116 k1 ks p.2 (addi p.1 p.2) 26#32 = addi (secondB k1 ks p).1 ks := rfl
theorem secondB_snd : k0_pay117 k0 k1 ks p.2 (addi p.1 p.2) 26#32 = addi (secondB k1 ks p).2 k0 := rfl

/-- From there into the fourth group. -/
def secondC : IVec S1x128 32 × IVec S1x128 32 := vrnd 17#32 15#32 (vinj k0 k1 3#32 (veven (vinj ks k0 2#32 p)))

theorem secondC_fst : k0_pay129 k0 k1 (addi p.1 ks) (addi p.2 k0) 2#32 = addi (secondC k0 k1 ks p).1 (secondC k0 k1 ks p).2 := rfl
theorem secondC_or : k0_pay130 k0 k1 (addi p.1 ks) (addi p.2 k0) 2#32
    = ori (shli (secondC k0 k1 ks p).2 (broadcast S1x128 29#32)) (shrui (secondC k0 k1 ks p).2 (broadcast S1x128 3#32)) := rfl

/-- The end. -/
def secondD : IVec S1x128 32 × IVec S1x128 32 :=
  vinj ks k0 5#32 (veven (vinj k1 ks 4#32 (vrnd 24#32 8#32 (vrnd 16#32 16#32 (vrnd 29#32 3#32 p)))))

theorem secondD_fst : k0_pay144 ks (k0_pay142 k1 ks (addi p.1 p.2) (ori (shli p.2 (broadcast S1x128 29#32)) (shrui p.2 (broadcast S1x128 3#32))))
    = (secondD k0 k1 ks p).1 := rfl
theorem secondD_snd : k0_pay145 k0 (k0_pay143 k1 ks (addi p.1 p.2) (ori (shli p.2 (broadcast S1x128 29#32)) (shrui p.2 (broadcast S1x128 3#32))))
    = (secondD k0 k1 ks p).2 := rfl

theorem part0 : (k0_pay264 x0, k0_pay265 x0) = vtf (k0_pay251 x0) (k0_pay254 x0) (row 0#32) (row 0#32) := by
  obtain ⟨K, hK⟩ : ∃ K, K = vkey2 (k0_pay251 x0) (k0_pay254 x0) := ⟨_, rfl⟩
  obtain ⟨A, hA⟩ : ∃ A, A = firstA (k0_pay251 x0) (k0_pay254 x0) (row 0#32) := ⟨_, rfl⟩
  obtain ⟨B, hB⟩ : ∃ B, B = firstB (k0_pay251 x0) K A := ⟨_, rfl⟩
  obtain ⟨C, hC⟩ : ∃ C, C = firstC (k0_pay251 x0) (k0_pay254 x0) K B := ⟨_, rfl⟩
  have eK : k0_pay255 x0 = K := by rw [hK, key_snd]; rfl
  have a2 : k0_pay256 x0 = A.2 := by rw [hA, key_snd]; exact firstA_snd _ _ _ _
  have a1 : k0_pay257 x0 = addi A.1 A.2 := by rw [hA, key_snd]; exact firstA_fst _ _ _ _
  have b2 : k0_pay259 x0 = B.2 := by unfold k0_pay259; rw [a2, a1, eK, hB]; exact firstB_snd _ _ _
  have b1 : k0_pay260 x0 = addi B.1 B.2 := by unfold k0_pay260; rw [a2, a1, eK, hB]; exact firstB_fst _ _ _
  have b3 : k0_pay261 x0 = shli B.2 (broadcast S1x128 6#32) := by unfold k0_pay261; rw [a2, a1, eK, hB]; exact firstB_shl _ _ _
  have c1 : k0_pay262 x0 = C.1 := by unfold k0_pay262; rw [b2, b1, b3, eK, hC]; exact firstC_fst _ _ _ _
  have c2 : k0_pay263 x0 = C.2 := by unfold k0_pay263; rw [b2, b1, b3, eK, hC]; exact firstC_snd _ _ _ _
  have e : vtf (k0_pay251 x0) (k0_pay254 x0) (row 0#32) (row 0#32)
      = vinj K (k0_pay251 x0) 5#32 (vrnd 6#32 26#32 (vrnd 26#32 6#32 (vrnd 15#32 17#32 C))) := by
    subst hC; subst hB; subst hA; subst hK; rfl
  rw [e]
  refine Prod.ext ?_ ?_
  · show k0_pay264 x0 = _
    unfold k0_pay264; rw [c1, c2, eK]; exact firstD_fst (k0_pay251 x0) _ _
  · show k0_pay265 x0 = _
    unfold k0_pay265; rw [c1, c2]; exact firstD_snd _ K _

theorem part1 : (k0_pay274 x0, k0_pay275 x0) = vtf (k0_pay251 x0) (k0_pay254 x0) (row 0#32) (row 1#32) := by
  obtain ⟨K, hK⟩ : ∃ K, K = vkey2 (k0_pay251 x0) (k0_pay254 x0) := ⟨_, rfl⟩
  obtain ⟨A, hA⟩ : ∃ A, A = secondA (k0_pay251 x0) (k0_pay254 x0) (row 0#32) := ⟨_, rfl⟩
  obtain ⟨B, hB⟩ : ∃ B, B = secondB (k0_pay254 x0) K A := ⟨_, rfl⟩
  obtain ⟨C, hC⟩ : ∃ C, C = secondC (k0_pay251 x0) (k0_pay254 x0) K B := ⟨_, rfl⟩
  have eK : k0_pay266 x0 = K := by rw [hK]; rfl
  have a2 : k0_pay267 x0 = A.2 := by rw [hA]; exact secondA_snd _ _ _
  have a1 : k0_pay268 x0 = addi A.1 A.2 := by rw [hA]; exact secondA_fst _ _ _
  have b1 : k0_pay269 x0 = addi B.1 K := by unfold k0_pay269; rw [a2, a1, eK, hB]; exact secondB_fst _ _ _
  have b2 : k0_pay270 x0 = addi B.2 (k0_pay251 x0) := by unfold k0_pay270; rw [a2, a1, eK, hB]; exact secondB_snd _ _ _ _
  have c1 : k0_pay271 x0 = addi C.1 C.2 := by unfold k0_pay271; rw [b1, b2, hC]; exact secondC_fst _ _ _ _
  have c2 : k0_pay272 x0 = ori (shli C.2 (broadcast S1x128 29#32)) (shrui C.2 (broadcast S1x128 3#32)) := by
    unfold k0_pay272; rw [b1, b2, hC]; exact secondC_or _ _ _ _
  have e : vtf (k0_pay251 x0) (k0_pay254 x0) (row 0#32) (row 1#32) = secondD (k0_pay251 x0) (k0_pay254 x0) K C := by
    subst hC; subst hB; subst hA; subst hK; rfl
  rw [e]
  refine Prod.ext ?_ ?_
  · show k0_pay274 x0 = _
    unfold k0_pay274; rw [c1, c2, eK]; exact secondD_fst (k0_pay251 x0) _ _ _
  · show k0_pay275 x0 = _
    unfold k0_pay275; rw [c1, c2, eK]; exact secondD_snd _ _ _ _

end Parts

attribute [local irreducible] k0_pay264 k0_pay265 k0_pay274 k0_pay275

/-! ## The words drawn, twenty of each of a row's two keys -/

section Draws

/-- A row repeated twenty times. -/
def wide (a : IVec S1x128 32) : IVec S20x128 32 := broadcastTo S20x128 (shapeCast S1x128 a shapeCasts_S1x128_S1x128) broadcasts_S1x128_S20x128

/-- The places' numbers. -/
abbrev places : IVec S20x128 32 := iota .tc S20x128 32 [0] iota_S20x128_d0_w32
abbrev zeros : IVec S20x128 32 := broadcast S20x128 0#32

variable (x0 : Vec Ideal S128x2048 .f32) (a b : IVec S1x128 32) (k0 k1 ks : IVec S20x128 32) (p : IVec S20x128 32 × IVec S20x128 32)

/-- The first key's words after a group of rounds. -/
def highA : IVec S20x128 32 × IVec S20x128 32 := vinj k1 (vkey2 k0 k1) 1#32 (veven (addi zeros k0, addi places k1))

theorem highA_snd : k0_pay158 a b = (highA (wide a) (wide b)).2 := rfl
theorem highA_fst : k0_pay159 a b = addi (highA (wide a) (wide b)).1 (highA (wide a) (wide b)).2 := rfl

/-- From there into the third group. -/
def highB : IVec S20x128 32 × IVec S20x128 32 := vrnd 15#32 17#32 (vrnd 13#32 19#32 (vinj ks k0 2#32 (vodd p)))

theorem highB_snd : k0_pay170 k0 ks p.2 (addi p.1 p.2) = (highB k0 ks p).2 := rfl
theorem highB_fst : k0_pay171 k0 ks p.2 (addi p.1 p.2) = addi (highB k0 ks p).1 (highB k0 ks p).2 := rfl

/-- From there to the end of the fourth group. -/
def highC : IVec S20x128 32 × IVec S20x128 32 := vodd (vinj k0 k1 3#32 (vrnd 6#32 26#32 (vrnd 26#32 6#32 p)))

theorem highC_fst : k0_pay182 k0 k1 p.2 (addi p.1 p.2) 26#32 = addi (highC k0 k1 p).1 k1 := rfl
theorem highC_snd : k0_pay183 k0 k1 ks p.2 (addi p.1 p.2) 26#32 = addi (highC k0 k1 p).2 ks := rfl

/-- The end, the two words put over each other. -/
theorem highD : k0_pay184 k0 ks (addi p.1 k1) (addi p.2 ks) 4#32
    = xori (vinj ks k0 5#32 (veven (vinj k1 ks 4#32 p))).1 (vinj ks k0 5#32 (veven (vinj k1 ks 4#32 p))).2 := rfl

theorem high : k0_pay283 x0 = xori (vtf (wide (k0_pay264 x0)) (wide (k0_pay265 x0)) zeros places).1
    (vtf (wide (k0_pay264 x0)) (wide (k0_pay265 x0)) zeros places).2 := by
  obtain ⟨u, hu⟩ : ∃ u, u = k0_pay264 x0 := ⟨_, rfl⟩
  obtain ⟨v, hv⟩ : ∃ v, v = k0_pay265 x0 := ⟨_, rfl⟩
  obtain ⟨K, hK⟩ : ∃ K, K = vkey2 (wide u) (wide v) := ⟨_, rfl⟩
  obtain ⟨A, hA⟩ : ∃ A, A = highA (wide u) (wide v) := ⟨_, rfl⟩
  obtain ⟨B, hB⟩ : ∃ B, B = highB (wide u) K A := ⟨_, rfl⟩
  obtain ⟨C, hC⟩ : ∃ C, C = highC (wide u) (wide v) B := ⟨_, rfl⟩
  have e0 : k0_pay276 x0 = wide u := by rw [hu]; rfl
  have e1 : k0_pay277 x0 = wide v := by rw [hv]; rfl
  have eK : k0_pay278 x0 = K := by rw [hK, hu, hv]; rfl
  have a2 : k0_pay279 x0 = A.2 := by rw [hA, hu, hv]; exact highA_snd _ _
  have a1 : k0_pay280 x0 = addi A.1 A.2 := by rw [hA, hu, hv]; exact highA_fst _ _
  have b2 : k0_pay281 x0 = B.2 := by unfold k0_pay281; rw [a2, a1, e0, eK, hB]; exact highB_snd _ _ _
  have b1 : k0_pay282 x0 = addi B.1 B.2 := by unfold k0_pay282; rw [a2, a1, e0, eK, hB]; exact highB_fst _ _ _
  have e : vtf (wide u) (wide v) zeros places = vinj K (wide u) 5#32 (veven (vinj (wide v) K 4#32 C)) := by
    subst hC; subst hB; subst hA; subst hK; rfl
  rw [← hu, ← hv, e]
  unfold k0_pay283
  rw [b2, b1, e0, e1, eK, highC_fst, highC_snd, ← hC, highD]

/-- The second key's words into the second group of rounds. -/
def lowA : IVec S20x128 32 × IVec S20x128 32 := vrnd 29#32 3#32 (vrnd 17#32 15#32 (vinj k1 ks 1#32 (veven p)))

theorem lowA_fst : k0_pay203 k1 ks p.2 (addi p.1 p.2) (shli p.2 (broadcast S20x128 13#32)) k0_pay191
    = addi (lowA k1 ks p).1 (lowA k1 ks p).2 := rfl
theorem lowA_shl : k0_pay204 k1 ks p.2 (addi p.1 p.2) (shli p.2 (broadcast S20x128 13#32)) k0_pay191
    = shli (lowA k1 ks p).2 (broadcast S20x128 16#32) := rfl
theorem lowA_shr : k0_pay205 k1 ks p.2 (addi p.1 p.2) (shli p.2 (broadcast S20x128 13#32)) k0_pay191
    = shrui (lowA k1 ks p).2 (broadcast S20x128 16#32) := rfl

/-- From there to the start of the fourth group. -/
def lowB : IVec S20x128 32 × IVec S20x128 32 :=
  vinj k0 k1 3#32 (veven (vinj ks k0 2#32 (vrnd 24#32 8#32 (vrnd 16#32 16#32 p))))

theorem lowB_snd : k0_pay216 k0 k1 ks (addi p.1 p.2) (shli p.2 (broadcast S20x128 16#32)) (shrui p.2 (broadcast S20x128 16#32)) = (lowB k0 k1 ks p).2 := rfl
theorem lowB_fst : k0_pay217 k0 k1 ks (addi p.1 p.2) (shli p.2 (broadcast S20x128 16#32)) (shrui p.2 (broadcast S20x128 16#32))
    = addi (lowB k0 k1 ks p).1 (lowB k0 k1 ks p).2 := rfl

/-- From there into the last group. -/
def lowC : IVec S20x128 32 × IVec S20x128 32 := vrnd 15#32 17#32 (vrnd 13#32 19#32 (vinj k1 ks 4#32 (vodd p)))

theorem lowC_snd : k0_pay229 k1 ks p.2 (addi p.1 p.2) k0_pay218 = (lowC k1 ks p).2 := rfl
theorem lowC_fst : k0_pay230 k1 ks p.2 (addi p.1 p.2) k0_pay218 = addi (lowC k1 ks p).1 (lowC k1 ks p).2 := rfl
theorem lowC_shl : k0_pay231 k1 ks p.2 (addi p.1 p.2) k0_pay218 = shli (lowC k1 ks p).2 (broadcast S20x128 26#32) := rfl

/-- The end, the two words put over each other. -/
theorem lowD : k0_pay232 k0 ks p.2 (addi p.1 p.2) (shli p.2 (broadcast S20x128 26#32))
    = xori (vinj ks k0 5#32 (vrnd 6#32 26#32 (vrnd 26#32 6#32 p))).1 (vinj ks k0 5#32 (vrnd 6#32 26#32 (vrnd 26#32 6#32 p))).2 := rfl

/-- The words drawn from the second key, as the block's result names them. -/
def lows : IVec S20x128 32 :=
  k0_pay232 (k0_pay284 x0) (k0_pay286 x0) (k0_pay229 (k0_pay285 x0) (k0_pay286 x0) (k0_pay294 x0) (k0_pay295 x0) (k0_pay296 x0))
    (k0_pay230 (k0_pay285 x0) (k0_pay286 x0) (k0_pay294 x0) (k0_pay295 x0) (k0_pay296 x0))
    (k0_pay231 (k0_pay285 x0) (k0_pay286 x0) (k0_pay294 x0) (k0_pay295 x0) (k0_pay296 x0))

theorem low : lows x0 = xori (vtf (wide (k0_pay274 x0)) (wide (k0_pay275 x0)) zeros places).1
    (vtf (wide (k0_pay274 x0)) (wide (k0_pay275 x0)) zeros places).2 := by
  obtain ⟨u, hu⟩ : ∃ u, u = k0_pay274 x0 := ⟨_, rfl⟩
  obtain ⟨v, hv⟩ : ∃ v, v = k0_pay275 x0 := ⟨_, rfl⟩
  obtain ⟨K, hK⟩ : ∃ K, K = vkey2 (wide u) (wide v) := ⟨_, rfl⟩
  obtain ⟨S, hS⟩ : ∃ S, S = (addi zeros (wide u), addi places (wide v)) := ⟨_, rfl⟩
  obtain ⟨A, hA⟩ : ∃ A, A = lowA (wide v) K S := ⟨_, rfl⟩
  obtain ⟨B, hB⟩ : ∃ B, B = lowB (wide u) (wide v) K A := ⟨_, rfl⟩
  obtain ⟨C, hC⟩ : ∃ C, C = lowC (wide v) K B := ⟨_, rfl⟩
  have e0 : k0_pay284 x0 = wide u := by rw [hu]; rfl
  have e1 : k0_pay285 x0 = wide v := by rw [hv]; rfl
  have eK : k0_pay286 x0 = K := by rw [hK, hu, hv]; rfl
  have s2 : k0_pay287 x0 = S.2 := by rw [hS, hv]; rfl
  have s1 : k0_pay288 x0 = addi S.1 S.2 := by rw [hS, hu, hv]; rfl
  have s3 : k0_pay289 x0 = shli S.2 (broadcast S20x128 13#32) := by rw [hS, hv]; rfl
  have s4 : k0_pay290 x0 = k0_pay191 := rfl
  have s5 : k0_pay296 x0 = k0_pay218 := rfl
  have a1 : k0_pay291 x0 = addi A.1 A.2 := by unfold k0_pay291; rw [s1, s2, s3, s4, e1, eK, hA]; exact lowA_fst _ _ _
  have a2 : k0_pay292 x0 = shli A.2 (broadcast S20x128 16#32) := by unfold k0_pay292; rw [s1, s2, s3, s4, e1, eK, hA]; exact lowA_shl _ _ _
  have a3 : k0_pay293 x0 = shrui A.2 (broadcast S20x128 16#32) := by unfold k0_pay293; rw [s1, s2, s3, s4, e1, eK, hA]; exact lowA_shr _ _ _
  have b2 : k0_pay294 x0 = B.2 := by unfold k0_pay294; rw [a1, a2, a3, e0, e1, eK, hB]; exact lowB_snd _ _ _ _
  have b1 : k0_pay295 x0 = addi B.1 B.2 := by unfold k0_pay295; rw [a1, a2, a3, e0, e1, eK, hB]; exact lowB_fst _ _ _ _
  have e : vtf (wide u) (wide v) zeros places = vinj K (wide u) 5#32 (vrnd 6#32 26#32 (vrnd 26#32 6#32 C)) := by
    subst hC; subst hB; subst hA; subst hS; subst hK; rfl
  rw [← hu, ← hv, e]
  unfold lows
  rw [b2, b1, e0, e1, eK, s5, lowC_snd, lowC_fst, lowC_shl, ← hC, lowD]

end Draws

end Cert.KerTf

end
-- ==== Proof.KerSum.lean ====
/- The seeds of a block's rows: the kernel's sums by slices of lanes are the rows' sums. -/
module

public import proofs.«01_k».proof.Proof.KerTf
public import Idealize.ShloMosaic.Lib.ValueIdx
public import Idealize.ShloMosaic.Lib.Pipeline.Value

@[expose] public section

noncomputable section

namespace Cert.KerSum

open Idealize.ShloMosaic Idealize.ShloMosaic.ValueIdx
open Cert.KernelIdeal Cert.KernelIdeal.Gen Cert.Threefry Cert.KerTf

attribute [local instance] Cert.KernelIdeal.Gen.facts

/-- A sum over a range cut into equal stretches. -/
theorem sum_cut (a b : ℕ) (f : ℕ → EReal) :
    ∑ n ∈ Finset.range (a * b), f n = ∑ i ∈ Finset.range a, ∑ l ∈ Finset.range b, f (b * i + l) := by
  induction a with
  | zero => simp
  | succ a ih => rw [Finset.sum_range_succ, ← ih, Nat.succ_mul, Finset.sum_range_add, Nat.mul_comm a b]

/-- A slice of columns reads the columns from its offset on. -/
theorem slice_at {N M : ℕ} (o : ℕ) (v : (⟨2, ![128, N]⟩ : Shape).Idx → EReal) (h : (⟨2, ![128, N]⟩ : Shape).Slices ![0, o] ⟨2, ![128, M]⟩)
    (j : Fin 128) (l : Fin M) (f : ℕ → EReal) (hv : ∀ k : Fin N, v (ix2 j k) = f k) :
    extractStridedSlice (⟨2, ![128, M]⟩ : Shape) ![0, o] v h (ix2 j l) = f (o + l) := by
  have hlt : o + l.val < N := lt_of_lt_of_le (Nat.add_lt_add_left l.isLt o) (h.2 1)
  rw [extractStridedSlice_apply ![0, o] v h (ix2 j l) (ix2 j ⟨o + l.val, hlt⟩) (by
    intro a
    match a with
    | ⟨0, _⟩ => exact (Nat.zero_add _).symm
    | ⟨1, _⟩ => rfl), hv]

variable (x0 : Vec Ideal S128x2048 .f32) (j : Fin 128) (f : ℕ → EReal)

theorem lanes_at (hf : ∀ k : Fin 2048, x0 (ix2 j k) = f k) (l : Fin 128) :
    k0_pay2 x0 (ix2 j l) = ∑ i ∈ Finset.range 16, f (128 * i + l) := by
  unfold k0_pay2
  simp only [addf_apply, slice_at _ _ _ j l f hf, Finset.sum_range_succ, Finset.sum_range_zero]
  simp

theorem eighths_at (v : FVec Ideal S128x128 .f32) (hf : ∀ k : Fin 128, v (ix2 j k) = f k) (hv : k0_pay2 x0 = v) (l : Fin 8) :
    k0_pay3 x0 (ix2 j l) = ∑ i ∈ Finset.range 13, f (8 * i + l) := by
  unfold k0_pay3
  rw [hv]
  simp only [addf_apply, slice_at _ _ _ j l f hf, Finset.sum_range_succ, Finset.sum_range_zero]
  simp

theorem sums_at (v : FVec Ideal S128x128 .f32) (b : FVec Ideal S128x8 .f32) (hf : ∀ k : Fin 128, v (ix2 j k) = f k)
    (hb : ∀ l : Fin 8, b (ix2 j l) = ∑ i ∈ Finset.range 13, f (8 * i + l)) :
    sums v b (ix2 j (0 : Fin 1)) = ∑ m ∈ Finset.range 8, ∑ i ∈ Finset.range 16, f (8 * i + m) := by
  unfold sums
  obtain ⟨c, hc⟩ : ∃ c, c = addf (addf (addf b (extractStridedSlice S128x8 ![0, 104] v slices_S128x128_o0_104_S128x8))
    (extractStridedSlice S128x8 ![0, 112] v slices_S128x128_o0_112_S128x8)) (extractStridedSlice S128x8 ![0, 120] v slices_S128x128_o0_120_S128x8) := ⟨_, rfl⟩
  obtain ⟨g, hg⟩ : ∃ g : ℕ → EReal, g = fun m => ∑ i ∈ Finset.range 16, f (8 * i + m) := ⟨_, rfl⟩
  have hl : ∀ l : Fin 8, c (ix2 j l) = g l := by
    intro l
    rw [hc, hg]
    simp only [addf_apply, slice_at _ _ _ j l f hf, hb]
    simp [Finset.sum_range_succ]
  rw [← hc]
  simp only [addf_apply, slice_at _ _ _ j (0 : Fin 1) g hl, Fin.val_zero, Nat.add_zero]
  rw [show (fun m => ∑ i ∈ Finset.range 16, f (8 * i + m)) = g from hg.symm]
  simp only [Finset.sum_range_succ, Finset.sum_range_zero, zero_add]
  ac_rfl

theorem row_sum : sums (k0_pay2 x0) (k0_pay3 x0) (ix2 j (0 : Fin 1)) = ∑ k : Fin 2048, x0 (ix2 j k) := by
  obtain ⟨f, hf⟩ : ∃ f : ℕ → EReal, f = fun n => if h : n < 2048 then x0 (ix2 j ⟨n, h⟩) else 0 := ⟨_, rfl⟩
  have hk : ∀ k : Fin 2048, x0 (ix2 j k) = f k := fun k => by
    rw [hf]
    show _ = if h : k.val < 2048 then x0 (ix2 j ⟨k.val, h⟩) else 0
    rw [dif_pos k.isLt]
  obtain ⟨g, hg⟩ : ∃ g : ℕ → EReal, g = fun l => ∑ i ∈ Finset.range 16, f (128 * i + l) := ⟨_, rfl⟩
  have hv : ∀ k : Fin 128, k0_pay2 x0 (ix2 j k) = g k := fun k => by rw [hg]; exact lanes_at x0 j f hk k
  rw [sums_at j g _ _ hv (eighths_at x0 j g _ hv rfl), Finset.sum_comm, ← sum_cut 16 8 g, hg, Finset.sum_comm, ← sum_cut 16 128 f,
    Finset.sum_range]
  exact Finset.sum_congr rfl fun k _ => (hk k).symm

/-- The seed of a block's row. -/
theorem seeds_at : seeds x0 (ix2 (0 : Fin 1) j) = Ideal.fptosi 32 ((∑ k : Fin 2048, x0 (ix2 j k)) * Ideal.ofBits .f32 0x447A0000#32) := by
  unfold seeds
  rw [shapeCast_apply _ _ (ix2 (0 : Fin 1) j) (ix2 j (0 : Fin 1)) (by
    rw [Shape.rowMajor_val_two, Shape.rowMajor_val_two]; simp)]
  show Ideal.fptosi 32 (sums (k0_pay237 x0) (k0_pay238 x0) (ix2 j (0 : Fin 1)) * _) = _
  have e : View.ld x0 r0_0 = x0 := View.ld_unit_zero (by funext a; match a with | ⟨0, _⟩ => rfl | ⟨1, _⟩ => rfl) _ x0
  have e1 : k0_pay237 x0 = k0_pay2 x0 := by unfold k0_pay237; rw [e]
  have e2 : k0_pay238 x0 = k0_pay3 x0 := by unfold k0_pay238; rw [e]
  rw [e1, e2, row_sum]
  rfl

end Cert.KerSum

end
-- ==== Proof.KerMod.lean ====
/- The kernel's remainder by 999: two folds of the high half, a quotient through a product with the reciprocal, and two
   corrections. -/
module

public import proofs.«01_k».proof.Proof.Gen.KernelIdeal.Frame
public import proofs.«01_k».proof.Proof.Threefry
public import Idealize.ShloMosaic.Lib.ValueIdx
public import Idealize.ShloMosaic.Lib.IdealHost

@[expose] public section

noncomputable section

namespace Cert.KerMod

open Idealize.ShloMosaic Cert.KernelIdeal Cert.KernelIdeal.Gen Cert.Threefry

attribute [local instance] Cert.KernelIdeal.Gen.facts

/-- The high half times 601, plus the low half. -/
def fold (w : W) : W := IntOp.addi (IntOp.muli (IntOp.shrui .vector w 16#32) 601#32) (IntOp.andi w 65535#32)

/-- The quotient by 999, as the kernel estimates it. -/
def quot (z : W) : W :=
  FloatOps.fptosi (F := Ideal) 32 (FloatOps.mulf (F := Ideal) (FloatOps.sitofp (F := Ideal) .f32 z) (Scalar.ofBits (F := Ideal) .f32 0x3A833405#32))

/-- The remainder, corrected from below. -/
def lift (z : W) : W :=
  Scalar.select (IntOp.cmpi .slt (IntOp.subi z (IntOp.muli (quot z) 999#32)) 0#32)
    (IntOp.addi (IntOp.subi z (IntOp.muli (quot z) 999#32)) 999#32) (IntOp.subi z (IntOp.muli (quot z) 999#32))

/-- The remainder, corrected from above. -/
def rest (r : W) : W := Scalar.select (IntOp.cmpi .sge r 999#32) (IntOp.subi r 999#32) r

/-- The kernel's remainder. -/
def kmod (w : W) : W := rest (lift (fold (fold w)))

theorem fold_toNat (w : W) : (fold w).toNat = w.toNat / 65536 * 601 + w.toNat % 65536 := by
  have hw := w.isLt
  have h1 : (IntOp.shrui .vector w 16#32 : W).toNat = w.toNat / 65536 := by
    show (if (16#32 : W).toNat < 32 then w >>> (16#32 : W) else _ : W).toNat = _
    rw [if_pos (by decide)]
    simp [BitVec.toNat_ushiftRight, Nat.shiftRight_eq_div_pow]
  have h2 : (IntOp.andi w 65535#32 : W).toNat = w.toNat % 65536 := by
    show (w &&& 65535#32).toNat = _
    rw [BitVec.toNat_and]
    exact Nat.and_two_pow_sub_one_eq_mod w.toNat 16
  show (IntOp.shrui .vector w 16#32 * 601#32 + IntOp.andi w 65535#32 : W).toNat = _
  rw [BitVec.toNat_add, BitVec.toNat_mul, h1, h2, show (601#32 : W).toNat = 601 from rfl]
  omega

/-- The reciprocal's value. -/
theorem recip : Ideal.ofBits .f32 0x3A833405#32 = ((8598533 / 8589934592 : ℝ) : EReal) := by
  simp [Ideal.ofBits, Ideal.ieee, -EReal.coe_mul]; norm_num

theorem quot_toNat {z : W} (h : z.toNat ≤ 426736) : (quot z).toNat = z.toNat * 8598533 / 8589934592 := by
  have hi : z.toInt = (z.toNat : ℤ) := by rw [BitVec.toInt_eq_toNat_cond, if_pos (by omega)]
  have e : quot z = Ideal.fptosi 32 (((z.toInt : ℝ) : EReal) * Ideal.ofBits .f32 0x3A833405#32) := rfl
  rw [e, recip, ← EReal.coe_mul, hi]
  unfold Ideal.fptosi
  have hr : ((z.toNat : ℤ) : ℝ) * (8598533 / 8589934592) = ((z.toNat * 8598533 : ℕ) : ℝ) / ((8589934592 : ℕ) : ℝ) := by push_cast; ring
  have hf : Ideal.toIntClamped (-((2 : ℕ) ^ (32 - 1) : ℕ)) (((2 : ℕ) ^ (32 - 1) : ℕ) - 1) ((((z.toNat : ℤ) : ℝ) * (8598533 / 8589934592) : ℝ) : EReal)
      = ((z.toNat * 8598533 / 8589934592 : ℕ) : ℤ) := by
    show max _ (min _ (if 0 ≤ ((z.toNat : ℤ) : ℝ) * (8598533 / 8589934592) then ⌊((z.toNat : ℤ) : ℝ) * (8598533 / 8589934592)⌋ else _)) = _
    rw [if_pos (by positivity), hr, Int.floor_div_natCast, Int.floor_natCast]
    have : z.toNat * 8598533 / 8589934592 ≤ 428 := by omega
    norm_num
    omega
  rw [hf, BitVec.toNat_ofInt]
  omega

theorem rest_lift {z : W} (h : z.toNat ≤ 426736) : (rest (lift z)).toNat = z.toNat % 999 := by
  have hq := quot_toNat h
  set n := z.toNat with hn
  have hs : (IntOp.subi z (IntOp.muli (quot z) 999#32) : W).toNat = n - n * 8598533 / 8589934592 * 999 := by
    show (z - quot z * 999#32 : W).toNat = _
    have : (quot z * 999#32 : W).toNat = n * 8598533 / 8589934592 * 999 := by
      rw [BitVec.toNat_mul, hq, show (999#32 : W).toNat = 999 from rfl]
      omega
    rw [BitVec.toNat_sub_of_le (by rw [BitVec.le_def, this]; omega), this]
  set r : W := IntOp.subi z (IntOp.muli (quot z) 999#32) with hr
  have hb : r.toNat < 1998 := by omega
  have hi : r.toInt = (r.toNat : ℤ) := by rw [BitVec.toInt_eq_toNat_cond, if_pos (by omega)]
  have hl : lift z = r := by
    show Scalar.select (BitVec.ofBool (r.slt 0#32)) (IntOp.addi r 999#32) r = r
    have : r.slt 0#32 = false := by
      rw [BitVec.slt_eq_decide, hi]; simp
    rw [this]; rfl
  rw [hl]
  unfold rest
  show (Scalar.select (BitVec.ofBool ((999#32 : W).sle r)) (r - 999#32) r : W).toNat = _
  have h9 : (999#32 : W).toInt = 999 := rfl
  by_cases hc : 999 ≤ r.toNat
  · have : (999#32 : W).sle r = true := by
      rw [BitVec.sle_eq_decide, hi, h9]; simp; omega
    rw [this]
    show (r - 999#32 : W).toNat = _
    have h9' : (999#32 : W).toNat = 999 := rfl
    rw [BitVec.toNat_sub_of_le (by rw [BitVec.le_def, h9']; omega), h9']
    omega
  · have : (999#32 : W).sle r = false := by
      rw [BitVec.sle_eq_decide, hi, h9]; simp; omega
    rw [this]
    show r.toNat = _
    omega

theorem kmod_toNat (w : W) : (kmod w).toNat = w.toNat % 999 := by
  have hw := w.isLt
  unfold kmod
  rw [rest_lift (by rw [fold_toNat, fold_toNat]; omega), fold_toNat, fold_toNat]
  omega

theorem kmod_eq (w : W) : kmod w = w % 999#32 := by
  apply BitVec.eq_of_toNat_eq
  rw [kmod_toNat, BitVec.toNat_umod]
  rfl

/-- A word of the message, from a block's two words. -/
theorem letter_at (h l : IVec S20x128 32) (i : S20x128.Idx) :
    IntOp.addi (rest (lift (fold (k0_pay235 (F := Ideal) l (k0_pay233 (F := Ideal) h) (k0_pay234 (F := Ideal) h) 999#32 i)))) 1#32
      = 1#32 + reduce999 (h i) (l i) := by
  have e : k0_pay235 (F := Ideal) l (k0_pay233 (F := Ideal) h) (k0_pay234 (F := Ideal) h) 999#32 i
      = fold (IntOp.addi (IntOp.muli (kmod (h i)) 562#32) (kmod (l i))) := rfl
  rw [e]
  show IntOp.addi (kmod _) 1#32 = _
  rw [kmod_eq, kmod_eq, kmod_eq]
  show _ + 1#32 = _
  rw [BitVec.add_comm]
  rfl

end Cert.KerMod

end
-- ==== Proof.Spec.lean ====
/- The function both programs compute, of one row of the argument: its seed, its message, and the message's one-hot rows. -/
module

public import proofs.«01_k».proof.Proof.Threefry
public import Idealize.ShloMosaic.Lib.ValueIdx
public import Idealize.ShloMosaic.Lib.IdealHost
public import Idealize.ShloMosaic.Lib.Pointwise.Reduce

@[expose] public section

noncomputable section

namespace Cert.Spec

open Idealize.ShloMosaic Cert.Threefry

/-- A row's seed: its sum times 1000, rounded towards zero to a 32-bit word. -/
def seed (x : (⟨2, ![1024, 2048]⟩ : Shape).Idx → EReal) (r : Fin 1024) : W :=
  Ideal.fptosi 32 ((∑ k : Fin 2048, x (ValueIdx.ix2 r k)) * Ideal.ofBits .f32 0x447A0000#32)

/-- A row's message: twenty letters and the closing zero. -/
def message (s : W) (t : Fin 21) : W := if (t : ℕ) < 20 then letter s (BitVec.ofNat 32 t) else 0#32

/-- One entry of the result: whether the message's letter at a place is the given one. -/
def hot (x : (⟨2, ![1024, 2048]⟩ : Shape).Idx → EReal) (r : Fin 1024) (t : Fin 21) (v : Fin 1000) : EReal :=
  FloatOps.uitofp (F := Ideal) .f32 (IntOp.cmpi .eq (message (seed x r) t) (BitVec.ofNat 32 v))

end Cert.Spec

end
-- ==== Proof.KerBlock.lean ====
/- A block of the kernel's result: at each place and row, the one-hot of the message's letter. -/
module

public import proofs.«01_k».proof.Proof.KerSum
public import proofs.«01_k».proof.Proof.KerMod
public import proofs.«01_k».proof.Proof.Spec
public import Idealize.ShloMosaic.Lib.KernelVsHost

@[expose] public section

noncomputable section

namespace Cert.KerBlock

open Idealize.ShloMosaic hiding ix0 ix1 ix2 ix3
open Idealize.ShloMosaic.ValueIdx
open Cert.KernelIdeal Cert.KernelIdeal.Gen Cert.Threefry Cert.KerTf Cert.KerMod

attribute [local instance] Cert.KernelIdeal.Gen.facts

variable (x0 : Vec Ideal S128x2048 .f32) (t : Fin 20) (j : Fin 128)

theorem wide_at (a : IVec S1x128 32) : wide a (ix2 t j) = a (ix2 (0 : Fin 1) j) := by
  unfold wide
  rw [shapeCast_self]
  refine broadcastTo_apply _ _ _ _ fun k => ?_
  match k with
  | ⟨0, _⟩ => rfl
  | ⟨1, _⟩ => rfl

theorem places_at : places (ix2 t j) = BitVec.ofNat 32 t := iota_single_apply .tc S20x128 32 0 iota_S20x128_d0_w32 (ix2 t j)

/-- The seed of a block's row. -/
abbrev seedOf : W := seeds x0 (ix2 (0 : Fin 1) j)

theorem keys_at : (k0_pay251 x0 (ix2 (0 : Fin 1) j), k0_pay254 x0 (ix2 (0 : Fin 1) j)) = key (seedOf x0 j) := by
  have h := congrArg (vat (ix2 (0 : Fin 1) j)) (keys x0)
  rw [vat_vtf] at h
  exact h

theorem part0_at : (k0_pay264 x0 (ix2 (0 : Fin 1) j), k0_pay265 x0 (ix2 (0 : Fin 1) j)) = part (key (seedOf x0 j)) 0#32 := by
  have h := congrArg (vat (ix2 (0 : Fin 1) j)) (part0 x0)
  rw [vat_vtf] at h
  rw [← keys_at]
  exact h

theorem part1_at : (k0_pay274 x0 (ix2 (0 : Fin 1) j), k0_pay275 x0 (ix2 (0 : Fin 1) j)) = part (key (seedOf x0 j)) 1#32 := by
  have h := congrArg (vat (ix2 (0 : Fin 1) j)) (part1 x0)
  rw [vat_vtf] at h
  rw [← keys_at]
  exact h

/-- A word of the generator on widened keys is the drawn word. -/
theorem word_at (a b : IVec S1x128 32) (k : W × W) (hk : (a (ix2 (0 : Fin 1) j), b (ix2 (0 : Fin 1) j)) = k) :
    xori (vtf (wide a) (wide b) zeros places).1 (vtf (wide a) (wide b) zeros places).2 (ix2 t j) = draw k (BitVec.ofNat 32 t) := by
  have h := vat_vtf (ix2 t j) (wide a) (wide b) zeros places
  rw [wide_at, wide_at, places_at] at h
  subst hk
  show IntOp.xori (vat (ix2 t j) (vtf (wide a) (wide b) zeros places)).1 (vat (ix2 t j) (vtf (wide a) (wide b) zeros places)).2 = _
  rw [h]
  rfl

theorem high_at : k0_pay283 x0 (ix2 t j) = draw (part (key (seedOf x0 j)) 0#32) (BitVec.ofNat 32 t) := by
  rw [high]; exact word_at t j _ _ _ (part0_at x0 j)

theorem low_at : lows x0 (ix2 t j) = draw (part (key (seedOf x0 j)) 1#32) (BitVec.ofNat 32 t) := by
  rw [low]; exact word_at t j _ _ _ (part1_at x0 j)

/-- The messages of a block's rows, from the two words. -/
def messages (h l : IVec S20x128 32) : IVec S21x128 32 :=
  k0_pay236 (F := Ideal) (k0_pay235 (F := Ideal) l (k0_pay233 (F := Ideal) h) (k0_pay234 (F := Ideal) h) 999#32)

theorem messages_low (h l : IVec S20x128 32) (t : Fin 21) (ht : t.val < 20) :
    messages h l (ix2 t j) = 1#32 + reduce999 (h (ix2 (⟨t.val, ht⟩ : Fin 20) j)) (l (ix2 (⟨t.val, ht⟩ : Fin 20) j)) := by
  rw [← letter_at h l]
  unfold messages
  generalize k0_pay235 (F := Ideal) l (k0_pay233 (F := Ideal) h) (k0_pay234 (F := Ideal) h) 999#32 = v
  unfold k0_pay236
  refine (concatenate_pair_apply_left (t := S21x128) 0 _ _ concatenates_S20x128_S1x128_S21x128_d0 (ix2 t j) rfl (ix2 (⟨t.val, ht⟩ : Fin 20) j) fun k => ?_).trans ?_
  · match k with
    | ⟨0, _⟩ => rfl
    | ⟨1, _⟩ => rfl
  · rfl

theorem messages_high (h l : IVec S20x128 32) (t : Fin 21) (ht : ¬ t.val < 20) : messages h l (ix2 t j) = 0#32 := by
  unfold messages
  generalize k0_pay235 (F := Ideal) l (k0_pay233 (F := Ideal) h) (k0_pay234 (F := Ideal) h) 999#32 = v
  unfold k0_pay236
  refine (concatenate_pair_apply_right (t := S21x128) 0 _ _ concatenates_S20x128_S1x128_S21x128_d0 (ix2 t j) rfl rfl (ix2 (0 : Fin 1) j)
    (fun k hk => ?_) ?_).trans rfl
  · match k with
    | ⟨0, _⟩ => exact absurd rfl hk
    | ⟨1, _⟩ => rfl
  · have := t.isLt
    show 0 + 20 = t.val
    omega

theorem messages_at (t : Fin 21) : messages (k0_pay283 x0) (lows x0) (ix2 t j) = Cert.Spec.message (seedOf x0 j) t := by
  unfold Cert.Spec.message
  by_cases ht : t.val < 20
  · rw [if_pos ht, messages_low j _ _ t ht, high_at, low_at]; rfl
  · rw [if_neg ht, messages_high j _ _ t ht]

theorem hot_at (w : IVec S21x128 32) (t : Fin 21) (v : Fin 1000) :
    k0_pay1 (F := Ideal) w (ix3 t v j) = FloatOps.uitofp (F := Ideal) .f32 (IntOp.cmpi .eq (w (ix2 t j)) (BitVec.ofNat 32 v)) := by
  unfold k0_pay1
  rw [show ∀ b : IVec S21x1000x128 1, sitofp (F := Ideal) .f32 (extui 32 b natLt_1_32) = uitofp .f32 b from
    fun b => sitofp_extui_eq_uitofp b natLt_1_32]
  show FloatOps.uitofp (F := Ideal) .f32 (IntOp.cmpi .eq (iota .tc S21x1000x128 32 [1] iota_S21x1000x128_d1_w32 (ix3 t v j))
    (broadcastTo S21x1000x128 (shapeCast S21x1x128 w shapeCasts_S21x128_S21x1x128) broadcasts_S21x1x128_S21x1000x128 (ix3 t v j))) = _
  rw [iota_single_apply .tc S21x1000x128 32 1 iota_S21x1000x128_d1_w32 (ix3 t v j),
    broadcastTo_apply _ broadcasts_S21x1x128_S21x1000x128 (ix3 t v j) (ix3 t (0 : Fin 1) j) (fun k => by
      match k with
      | ⟨0, _⟩ => rfl
      | ⟨1, _⟩ => rfl
      | ⟨2, _⟩ => rfl),
    shapeCast_apply w shapeCasts_S21x128_S21x1x128 (ix3 t (0 : Fin 1) j) (ix2 t j) (by
      rw [Shape.rowMajor_val_two, Shape.rowMajor_val_three]; simp)]
  show FloatOps.uitofp (F := Ideal) .f32 (BitVec.ofBool ((BitVec.ofNat 32 v : W) == w (ix2 t j)))
    = FloatOps.uitofp (F := Ideal) .f32 (BitVec.ofBool (w (ix2 t j) == BitVec.ofNat 32 v))
  rw [Bool.beq_comm]

/-- The block at a place, a letter and a row. -/
theorem out_at (t : Fin 21) (v : Fin 1000) : out0_1 (F := Ideal) x0 (ix3 t v j)
    = FloatOps.uitofp (F := Ideal) .f32 (IntOp.cmpi .eq (Cert.Spec.message
        (Ideal.fptosi 32 ((∑ k : Fin 2048, x0 (ix2 j k)) * Ideal.ofBits .f32 0x447A0000#32)) t) (BitVec.ofNat 32 v)) := by
  have e : out0_1 (F := Ideal) x0 = k0_pay1 (F := Ideal) (messages (k0_pay283 x0) (lows x0)) := by
    unfold out0_1 messages lows
    exact View.canon_unit_zero (by funext a; match a with | ⟨0, _⟩ => rfl | ⟨1, _⟩ => rfl | ⟨2, _⟩ => rfl) _ _
  rw [e, hot_at, messages_at, ← Cert.KerSum.seeds_at]

end Cert.KerBlock

end
-- ==== Proof.KerArr.lean ====
/- The kernel's array after its last point, from its blocks, and the transposed result. -/
module

public import proofs.«01_k».proof.Proof.KerBlock
public import proofs.«01_k».proof.Proof.Gen.KernelIdeal.Run
public import Idealize.ShloMosaic.Lib.Pipeline.ValueKit

@[expose] public section

noncomputable section

namespace Cert.KerArr

open Idealize.ShloMosaic hiding ix0 ix1 ix2 ix3
open Idealize.ShloMosaic.ValueIdx
open Idealize.ShloMosaic.TcCoe
open Cert.KernelIdeal Cert.KernelIdeal.Gen

attribute [local instance] Cert.KernelIdeal.Gen.facts

variable (m : (ℓ : Loc nD τ sig) → Buf (Elt Ideal) ℓ) (c : Dev nD)

/-- The argument's contents on a core. -/
abbrev arg : S1024x2048.Idx → EReal := m ((c.tc : Thread nD τ).loc main_arg0)

/-- What the array holds, an entry for a place, a letter and a row. -/
def whole : S21x1000x1024.Idx → EReal := fun i => Cert.Spec.hot (arg m c) (i 2) (i 0) (i 1)

theorem index0 : ∀ t : Fin cfg0.N, win0_0.index t = ![t.val, 0] := by decide
theorem index1 : ∀ t : Fin cfg0.N, win0_1.index t = ![0, 0, t.val] := by decide

/-- A row of an input block is a row of the argument. -/
theorem block_at (t : Fin cfg0.N) (j : Fin 128) (k : Fin 2048) (r : Fin 1024) (hr : r.val = t.val * 128 + j.val) :
    (iblk m c 0 t : S128x2048.Idx → EReal) (ix2 j k) = arg m c (ix2 r k) := by
  blk_simp [iblk]
  show m ((c.tc : Thread nD τ).loc main_arg0) _ = m ((c.tc : Thread nD τ).loc main_arg0) _
  refine congrArg _ (funext fun a => Fin.ext ?_)
  match a with
  | ⟨0, _⟩ => blk_simp [index0]; exact hr.symm
  | ⟨1, _⟩ => blk_simp [index0]

theorem array : (dats m 0 c).arrAt 1 cfg0.N = whole m c := by
  refine (dats m 0 c).arrAt_eq_of_covers 1 _ (by decide +kernel) fun t hf y => ?_
  blk_simp
  rw [after0_1]
  obtain ⟨p, v, j, rfl⟩ : ∃ (p : Fin 21) (v : Fin 1000) (j : Fin 128), y = ix3 p v j :=
    ⟨y 0, y 1, y 2, funext fun a => match a with | ⟨0, _⟩ => rfl | ⟨1, _⟩ => rfl | ⟨2, _⟩ => rfl⟩
  refine (Cert.KerBlock.out_at _ j p v).trans ?_
  have ht : t.val < 8 := t.isLt
  have he : ((win0_1.blk t).view.emb (ix3 p v j) : S21x1000x1024.Idx) = ix3 p v (⟨t.val * 128 + j.val, by omega⟩ : Fin 1024) := by
    refine funext fun a => Fin.ext ?_
    match a with
    | ⟨0, _⟩ => blk_simp [index1]
    | ⟨1, _⟩ => blk_simp [index1]
    | ⟨2, _⟩ => blk_simp [index1]
  rw [show whole m c ((win0_1.blk t).view.emb (ix3 p v j)) = _ from congrArg (whole m c) he]
  show _ = Cert.Spec.hot (arg m c) (⟨t.val * 128 + j.val, by omega⟩ : Fin 1024) p v
  unfold Cert.Spec.hot Cert.Spec.seed
  rw [Finset.sum_congr rfl fun k _ => block_at m c t j k ⟨t.val * 128 + j.val, by omega⟩ rfl]

/-- The kernel's result: the array with the rows first. -/
theorem result : transpose S1024x21x1000 [2, 0, 1] (Value.reg_main_call0_v0 m c) transposes_S21x1000x1024_S1024x21x1000_2_0_1
    = fun i : S1024x21x1000.Idx => Cert.Spec.hot (arg m c) (i 0) (i 1) (i 2) := by
  funext i
  unfold Value.reg_main_call0_v0
  rw [array]
  exact transpose_apply [2, 0, 1] (whole m c) transposes_S21x1000x1024_S1024x21x1000_2_0_1 i (ix3 (i 1) (i 2) (i 0)) fun b => by
    match b with
    | ⟨0, _⟩ => rfl
    | ⟨1, _⟩ => rfl
    | ⟨2, _⟩ => rfl

end Cert.KerArr

end
-- ==== Proof.RefTf.lean ====
/- The reference's three generator functions, at one index. -/
module

public import proofs.«01_k».proof.Proof.RefLine
public import proofs.«01_k».proof.Proof.Threefry
public import Idealize.ShloMosaic.Lib.Pipeline.Value

@[expose] public section

set_option maxRecDepth 20000

noncomputable section

namespace Cert.RefTf

open Idealize.ShloMosaic Idealize.ShloMosaic.StableHlo Idealize.SL.Sem Cert.ReferenceIdeal Cert.Line Cert.Threefry
open Idealize.ShloMosaic.ValueIdx Facts₀ Facts

attribute [local instance] Cert.ReferenceIdeal.Gen.facts

section Reads
variable {α : Type} {n m : ℕ}

/-- A column repeated along the rows. -/
theorem bcol (h) (x : (⟨2, ![n, 1]⟩ : Shape).Idx → α) (a : Fin n) (b : Fin m) :
    broadcastInDim (⟨2, ![n, m]⟩ : Shape) (![0, 1] : Fin 2 → Fin 2) h x (ix2 a b) = x (ix2 a 0) := by
  refine broadcastInDim_apply _ _ _ _ _ fun k => ?_
  match k with
  | ⟨0, _⟩ => show (a : ℕ) = if n = 1 then 0 else (a : ℕ); split <;> omega
  | ⟨1, _⟩ => rfl

/-- A row repeated along the columns. -/
theorem brow (h) (x : (⟨2, ![1, m]⟩ : Shape).Idx → α) (a : Fin n) (b : Fin m) :
    broadcastInDim (⟨2, ![n, m]⟩ : Shape) (![0, 1] : Fin 2 → Fin 2) h x (ix2 a b) = x (ix2 0 b) := by
  refine broadcastInDim_apply _ _ _ _ _ fun k => ?_
  match k with
  | ⟨0, _⟩ => rfl
  | ⟨1, _⟩ => show (b : ℕ) = if m = 1 then 0 else (b : ℕ); split <;> omega

/-- A scalar repeated everywhere. -/
theorem bscal (t : Shape) (d) (h) (x : (⟨0, ![]⟩ : Shape).Idx → α) (i : t.Idx) : broadcastInDim t d h x i = x ix0 :=
  congrArg x (funext fun a => a.elim0)

end Reads

variable {X : Valuation τ sig (Elt Ideal)}

/-- The twenty rounds and five injections that follow the first additions. -/
theorem groups {k0 k1 k2 : W} {p0 p1 p2 p3 p4 p5 p6 p7 p8 p9 p10 p11 p12 p13 p14 p15 p16 p17 p18 p19 p20 p21 p22 p23 p24 p25 : W × W}
    (x0 x1 : W) (hk : k2 = key2 k0 k1) (h0 : p0 = (IntOp.addi x0 k0, IntOp.addi x1 k1))
    (h1 : p1 = rnd 13#32 19#32 p0) (h2 : p2 = rnd 15#32 17#32 p1) (h3 : p3 = rnd 26#32 6#32 p2) (h4 : p4 = rnd 6#32 26#32 p3)
    (h5 : p5 = inj k1 k2 1#32 p4)
    (h6 : p6 = rnd 17#32 15#32 p5) (h7 : p7 = rnd 29#32 3#32 p6) (h8 : p8 = rnd 16#32 16#32 p7) (h9 : p9 = rnd 24#32 8#32 p8)
    (h10 : p10 = inj k2 k0 2#32 p9)
    (h11 : p11 = rnd 13#32 19#32 p10) (h12 : p12 = rnd 15#32 17#32 p11) (h13 : p13 = rnd 26#32 6#32 p12) (h14 : p14 = rnd 6#32 26#32 p13)
    (h15 : p15 = inj k0 k1 3#32 p14)
    (h16 : p16 = rnd 17#32 15#32 p15) (h17 : p17 = rnd 29#32 3#32 p16) (h18 : p18 = rnd 16#32 16#32 p17) (h19 : p19 = rnd 24#32 8#32 p18)
    (h20 : p20 = inj k1 k2 4#32 p19)
    (h21 : p21 = rnd 13#32 19#32 p20) (h22 : p22 = rnd 15#32 17#32 p21) (h23 : p23 = rnd 26#32 6#32 p22) (h24 : p24 = rnd 6#32 26#32 p23)
    (h25 : p25 = inj k2 k0 5#32 p24) : p25 = tf k0 k1 x0 x1 := by
  rw [h25, even_of h21 h22 h23 h24, h20, odd_of h16 h17 h18 h19, h15, even_of h11 h12 h13 h14, h10, odd_of h6 h7 h8 h9, h5,
    even_of h1 h2 h3 h4, h0, hk]
  rfl

/-- The generator on a grid of keys by row and counters by column, twenty columns. -/
theorem tf20 {a0 a1 a2 a3} {φ : fn_threefry2x32_2.Bufs} (h : Sat X (fn_threefry2x32_2.body (F := Ideal) a0 a1 a2 a3 φ)) (r : Fin 1024) (c : Fin 20) :
    at2 X (ix2 r c) φ.v174 φ.v178 = tf (rd X a0 (ix2 r 0)) (rd X a1 (ix2 r 0)) (rd X a2 (ix2 0 c)) (rd X a3 (ix2 0 c)) := by
  unfold fn_threefry2x32_2.body fn_threefry2x32_2.body_part0 fn_threefry2x32_2.body_part1 fn_threefry2x32_2.body_part2
    fn_threefry2x32_2.body_part3 at h
  simp only [sat_bind, sat_pure, and_assoc] at h
  obtain ⟨g0, g1, g2, g3, g4, g5, g6, g7, g8, g9, h⟩ := h
  obtain ⟨h1, h⟩ := step (ix2 r c) h
  obtain ⟨h2, h⟩ := step (ix2 r c) h
  obtain ⟨h3, h⟩ := step (ix2 r c) h
  obtain ⟨h4, h⟩ := step (ix2 r c) h
  obtain ⟨h5, h⟩ := inject (ix2 r c) h
  obtain ⟨h6, h⟩ := step (ix2 r c) h
  obtain ⟨h7, h⟩ := step (ix2 r c) h
  obtain ⟨h8, h⟩ := step (ix2 r c) h
  obtain ⟨h9, h⟩ := step (ix2 r c) h
  obtain ⟨h10, h⟩ := inject (ix2 r c) h
  obtain ⟨h11, h⟩ := step (ix2 r c) h
  obtain ⟨h12, h⟩ := step (ix2 r c) h
  obtain ⟨h13, h⟩ := step (ix2 r c) h
  obtain ⟨h14, h⟩ := step (ix2 r c) h
  obtain ⟨h15, h⟩ := inject (ix2 r c) h
  obtain ⟨h16, h⟩ := step (ix2 r c) h
  obtain ⟨h17, h⟩ := step (ix2 r c) h
  obtain ⟨h18, h⟩ := step (ix2 r c) h
  obtain ⟨h19, h⟩ := step (ix2 r c) h
  obtain ⟨h20, h⟩ := inject (ix2 r c) h
  obtain ⟨h21, h⟩ := step (ix2 r c) h
  obtain ⟨h22, h⟩ := step (ix2 r c) h
  obtain ⟨h23, h⟩ := step (ix2 r c) h
  obtain ⟨h24, h⟩ := step (ix2 r c) h
  obtain ⟨h25, -⟩ := inject (ix2 r c) h
  simp only [bcol] at h5 h10 h15 h20 h25
  refine groups _ _ ?_ ?_ h1 h2 h3 h4 h5 h6 h7 h8 h9 h10 h11 h12 h13 h14 h15 h16 h17 h18 h19 h20 h21 h22 h23 h24 h25
  · rw [opB g3, opB g0, opU g2, opN g1]; rfl
  · unfold at2
    rw [opB g6, opB g9, opU g4, opU g5,
      opU g7, opU g8]
    show (IntOp.addi _ _, IntOp.addi _ _) = _
    rw [bcol, bcol, brow, brow]

/-- The same at two columns. -/
theorem tf2 {a0 a1 a2 a3} {φ : fn_threefry2x32_1.Bufs} (h : Sat X (fn_threefry2x32_1.body (F := Ideal) a0 a1 a2 a3 φ)) (r : Fin 1024) (c : Fin 2) :
    at2 X (ix2 r c) φ.v174 φ.v178 = tf (rd X a0 (ix2 r 0)) (rd X a1 (ix2 r 0)) (rd X a2 (ix2 0 c)) (rd X a3 (ix2 0 c)) := by
  unfold fn_threefry2x32_1.body fn_threefry2x32_1.body_part0 fn_threefry2x32_1.body_part1 fn_threefry2x32_1.body_part2
    fn_threefry2x32_1.body_part3 at h
  simp only [sat_bind, sat_pure, and_assoc] at h
  obtain ⟨g0, g1, g2, g3, g4, g5, g6, g7, g8, g9, h⟩ := h
  obtain ⟨h1, h⟩ := step (ix2 r c) h
  obtain ⟨h2, h⟩ := step (ix2 r c) h
  obtain ⟨h3, h⟩ := step (ix2 r c) h
  obtain ⟨h4, h⟩ := step (ix2 r c) h
  obtain ⟨h5, h⟩ := inject (ix2 r c) h
  obtain ⟨h6, h⟩ := step (ix2 r c) h
  obtain ⟨h7, h⟩ := step (ix2 r c) h
  obtain ⟨h8, h⟩ := step (ix2 r c) h
  obtain ⟨h9, h⟩ := step (ix2 r c) h
  obtain ⟨h10, h⟩ := inject (ix2 r c) h
  obtain ⟨h11, h⟩ := step (ix2 r c) h
  obtain ⟨h12, h⟩ := step (ix2 r c) h
  obtain ⟨h13, h⟩ := step (ix2 r c) h
  obtain ⟨h14, h⟩ := step (ix2 r c) h
  obtain ⟨h15, h⟩ := inject (ix2 r c) h
  obtain ⟨h16, h⟩ := step (ix2 r c) h
  obtain ⟨h17, h⟩ := step (ix2 r c) h
  obtain ⟨h18, h⟩ := step (ix2 r c) h
  obtain ⟨h19, h⟩ := step (ix2 r c) h
  obtain ⟨h20, h⟩ := inject (ix2 r c) h
  obtain ⟨h21, h⟩ := step (ix2 r c) h
  obtain ⟨h22, h⟩ := step (ix2 r c) h
  obtain ⟨h23, h⟩ := step (ix2 r c) h
  obtain ⟨h24, h⟩ := step (ix2 r c) h
  obtain ⟨h25, -⟩ := inject (ix2 r c) h
  simp only [bcol] at h5 h10 h15 h20 h25
  refine groups _ _ ?_ ?_ h1 h2 h3 h4 h5 h6 h7 h8 h9 h10 h11 h12 h13 h14 h15 h16 h17 h18 h19 h20 h21 h22 h23 h24 h25
  · rw [opB g3, opB g0, opU g2, opN g1]; rfl
  · unfold at2
    rw [opB g6, opB g9, opU g4, opU g5,
      opU g7, opU g8]
    show (IntOp.addi _ _, IntOp.addi _ _) = _
    rw [bcol, bcol, brow, brow]

/-- The generator with one key and a column of counters. -/
theorem tf1 {a0 a1 a2 a3} {φ : fn_threefry2x32.Bufs} (h : Sat X (fn_threefry2x32.body (F := Ideal) a0 a1 a2 a3 φ)) (r : Fin 1024) (c : Fin 1) :
    at2 X (ix2 r c) φ.v171 φ.v175 = tf (rd X a0 ix0) (rd X a1 ix0) (rd X a2 (ix2 r c)) (rd X a3 (ix2 r c)) := by
  unfold fn_threefry2x32.body fn_threefry2x32.body_part0 fn_threefry2x32.body_part1 fn_threefry2x32.body_part2
    fn_threefry2x32.body_part3 at h
  simp only [sat_bind, sat_pure, and_assoc] at h
  obtain ⟨g0, g1, g2, g3, g4, g5, g6, h⟩ := h
  obtain ⟨h1, h⟩ := step (ix2 r c) h
  obtain ⟨h2, h⟩ := step (ix2 r c) h
  obtain ⟨h3, h⟩ := step (ix2 r c) h
  obtain ⟨h4, h⟩ := step (ix2 r c) h
  obtain ⟨h5, h⟩ := inject (ix2 r c) h
  obtain ⟨h6, h⟩ := step (ix2 r c) h
  obtain ⟨h7, h⟩ := step (ix2 r c) h
  obtain ⟨h8, h⟩ := step (ix2 r c) h
  obtain ⟨h9, h⟩ := step (ix2 r c) h
  obtain ⟨h10, h⟩ := inject (ix2 r c) h
  obtain ⟨h11, h⟩ := step (ix2 r c) h
  obtain ⟨h12, h⟩ := step (ix2 r c) h
  obtain ⟨h13, h⟩ := step (ix2 r c) h
  obtain ⟨h14, h⟩ := step (ix2 r c) h
  obtain ⟨h15, h⟩ := inject (ix2 r c) h
  obtain ⟨h16, h⟩ := step (ix2 r c) h
  obtain ⟨h17, h⟩ := step (ix2 r c) h
  obtain ⟨h18, h⟩ := step (ix2 r c) h
  obtain ⟨h19, h⟩ := step (ix2 r c) h
  obtain ⟨h20, h⟩ := inject (ix2 r c) h
  obtain ⟨h21, h⟩ := step (ix2 r c) h
  obtain ⟨h22, h⟩ := step (ix2 r c) h
  obtain ⟨h23, h⟩ := step (ix2 r c) h
  obtain ⟨h24, h⟩ := step (ix2 r c) h
  obtain ⟨h25, -⟩ := inject (ix2 r c) h
  simp only [bscal] at h5 h10 h15 h20 h25
  refine groups _ _ ?_ ?_ h1 h2 h3 h4 h5 h6 h7 h8 h9 h10 h11 h12 h13 h14 h15 h16 h17 h18 h19 h20 h21 h22 h23 h24 h25
  · rw [opB g2, opB g0, opN g1]; rfl
  · unfold at2
    rw [opB g4, opB g6, opU g3, opU g5]
    show (IntOp.addi _ _, IntOp.addi _ _) = _
    rw [bscal, bscal]

end Cert.RefTf
-- ==== Proof.RefValue.lean ====
/- What the reference computes: the one-hot rows of the messages that the row sums seed. -/
module

public import proofs.«01_k».proof.Proof.RefTf

@[expose] public section

set_option maxRecDepth 20000

noncomputable section

namespace Cert.RefValue

open Idealize.ShloMosaic Idealize.ShloMosaic.StableHlo Idealize.SL.Sem Cert.ReferenceIdeal Cert.Line Cert.Threefry Cert.RefTf
open Idealize.ShloMosaic.ValueIdx Facts₀ Facts

attribute [local instance] Cert.ReferenceIdeal.Gen.facts
attribute [local irreducible] tf

/-! ## Shape operations at an index -/

section Reads
variable {α : Type} {n m o : ℕ}

theorem col0 (h) (x : (⟨2, ![n, 2]⟩ : Shape).Idx → α) (a : Fin n) :
    extractStridedSlice (⟨2, ![n, 1]⟩ : Shape) (![0, 0] : Fin 2 → ℕ) x h (ix2 a 0) = x (ix2 a 0) := by
  refine extractStridedSlice_apply _ _ _ _ _ fun k => ?_
  match k with
  | ⟨0, _⟩ => exact (Nat.zero_add _).symm
  | ⟨1, _⟩ => rfl

theorem col1 (h) (x : (⟨2, ![n, 2]⟩ : Shape).Idx → α) (a : Fin n) :
    extractStridedSlice (⟨2, ![n, 1]⟩ : Shape) (![0, 1] : Fin 2 → ℕ) x h (ix2 a 0) = x (ix2 a 1) := by
  refine extractStridedSlice_apply _ _ _ _ _ fun k => ?_
  match k with
  | ⟨0, _⟩ => exact (Nat.zero_add _).symm
  | ⟨1, _⟩ => rfl

theorem flat (h) (x : (⟨2, ![n, 1]⟩ : Shape).Idx → α) (a : Fin n) : shapeCast (⟨1, ![n]⟩ : Shape) x h (ix1 a) = x (ix2 a 0) := by
  refine shapeCast_apply _ _ _ _ ?_
  rw [Shape.rowMajor_val_two, Shape.rowMajor_val_one]
  show (a : ℕ) * 1 + 0 = a
  omega

theorem up0 (h) (x : (⟨1, ![n]⟩ : Shape).Idx → α) (a : Fin n) :
    broadcastInDim (⟨2, ![n, 1]⟩ : Shape) (![0] : Fin 1 → Fin 2) h x (ix2 a 0) = x (ix1 a) := by
  refine broadcastInDim_apply _ _ _ _ _ fun k => ?_
  match k with
  | ⟨0, _⟩ => show (a : ℕ) = if n = 1 then 0 else (a : ℕ); split <;> omega

theorem up1 (h) (x : (⟨1, ![m]⟩ : Shape).Idx → α) (b : Fin m) :
    broadcastInDim (⟨2, ![1, m]⟩ : Shape) (![1] : Fin 1 → Fin 2) h x (ix2 0 b) = x (ix1 b) := by
  refine broadcastInDim_apply _ _ _ _ _ fun k => ?_
  match k with
  | ⟨0, _⟩ => show (b : ℕ) = if m = 1 then 0 else (b : ℕ); split <;> omega

theorem cat0 (h : Shape.Concatenates [(⟨2, ![n, 1]⟩ : Shape), ⟨2, ![n, 1]⟩] ⟨2, ![n, 2]⟩ 1) (x y : (⟨2, ![n, 1]⟩ : Shape).Idx → α) (a : Fin n) :
    concatenate (⟨2, ![n, 2]⟩ : Shape) 1 [⟨⟨2, ![n, 1]⟩, x⟩, ⟨⟨2, ![n, 1]⟩, y⟩] h (ix2 a 0) = x (ix2 a 0) := by
  refine concatenate_pair_apply_left (t := ⟨2, ![n, 2]⟩) 1 x y h (ix2 a 0) rfl (ix2 a 0) fun k => ?_
  match k with
  | ⟨0, _⟩ => rfl
  | ⟨1, _⟩ => rfl

theorem cat1 (h : Shape.Concatenates [(⟨2, ![n, 1]⟩ : Shape), ⟨2, ![n, 1]⟩] ⟨2, ![n, 2]⟩ 1) (x y : (⟨2, ![n, 1]⟩ : Shape).Idx → α) (a : Fin n) :
    concatenate (⟨2, ![n, 2]⟩ : Shape) 1 [⟨⟨2, ![n, 1]⟩, x⟩, ⟨⟨2, ![n, 1]⟩, y⟩] h (ix2 a 1) = y (ix2 a 0) := by
  refine concatenate_pair_apply_right (t := ⟨2, ![n, 2]⟩) 1 x y h (ix2 a 1) rfl rfl (ix2 a 0) (fun k hk => ?_) rfl
  match k with
  | ⟨0, _⟩ => rfl
  | ⟨1, _⟩ => exact absurd rfl hk

/-- Two planes of one column each put side by side, at the first column. -/
theorem cat3 (h : Shape.Concatenates [(⟨3, ![n, m, 1]⟩ : Shape), ⟨3, ![n, m, 1]⟩] ⟨3, ![n, m, 2]⟩ 2) (x y : (⟨3, ![n, m, 1]⟩ : Shape).Idx → α)
    (a : Fin n) (b : Fin m) :
    concatenate (⟨3, ![n, m, 2]⟩ : Shape) 2 [⟨⟨3, ![n, m, 1]⟩, x⟩, ⟨⟨3, ![n, m, 1]⟩, y⟩] h (ix3 a b 0) = x (ix3 a b 0)
    ∧ concatenate (⟨3, ![n, m, 2]⟩ : Shape) 2 [⟨⟨3, ![n, m, 1]⟩, x⟩, ⟨⟨3, ![n, m, 1]⟩, y⟩] h (ix3 a b 1) = y (ix3 a b 0) := by
  constructor
  · refine concatenate_pair_apply_left (t := ⟨3, ![n, m, 2]⟩) 2 x y h (ix3 a b 0) rfl (ix3 a b 0) fun k => ?_
    match k with
    | ⟨0, _⟩ => rfl
    | ⟨1, _⟩ => rfl
    | ⟨2, _⟩ => rfl
  · refine concatenate_pair_apply_right (t := ⟨3, ![n, m, 2]⟩) 2 x y h (ix3 a b 1) rfl rfl (ix3 a b 0) (fun k hk => ?_) rfl
    match k with
    | ⟨0, _⟩ => rfl
    | ⟨1, _⟩ => rfl
    | ⟨2, _⟩ => exact absurd rfl hk

/-- A plane read as one of a single column. -/
theorem up3 (h) (x : (⟨2, ![n, m]⟩ : Shape).Idx → α) (a : Fin n) (b : Fin m) :
    broadcastInDim (⟨3, ![n, m, 1]⟩ : Shape) (![0, 1] : Fin 2 → Fin 3) h x (ix3 a b 0) = x (ix2 a b) := by
  refine broadcastInDim_apply _ _ _ _ _ fun k => ?_
  match k with
  | ⟨0, _⟩ => show (a : ℕ) = if n = 1 then 0 else (a : ℕ); split <;> omega
  | ⟨1, _⟩ => show (b : ℕ) = if m = 1 then 0 else (b : ℕ); split <;> omega

/-- One row of every plane, as a plane. -/
theorem row3 (j : ℕ) (hj : j < 2) (h : (⟨3, ![n, 2, 2]⟩ : Shape).Slices ![0, j, 0] ⟨3, ![n, 1, 2]⟩)
    (h' : (⟨3, ![n, 1, 2]⟩ : Shape).ShapeCasts ⟨2, ![n, 2]⟩) (x : (⟨3, ![n, 2, 2]⟩ : Shape).Idx → α) (a : Fin n) (b : Fin 2) :
    shapeCast (⟨2, ![n, 2]⟩ : Shape) (extractStridedSlice (⟨3, ![n, 1, 2]⟩ : Shape) (![0, j, 0] : Fin 3 → ℕ) x h) h' (ix2 a b)
      = x (ix3 a ⟨j, hj⟩ b) := by
  refine (shapeCast_apply _ _ _ (ix3 a 0 b) ?_).trans (extractStridedSlice_apply _ _ _ _ _ fun k => ?_)
  · rw [Shape.rowMajor_val_two, Shape.rowMajor_val_three]
    show ((a : ℕ) * 1 + 0) * 2 + b = a * 2 + b
    omega
  · match k with
    | ⟨0, _⟩ => exact (Nat.zero_add _).symm
    | ⟨1, _⟩ => rfl
    | ⟨2, _⟩ => exact (Nat.zero_add _).symm

end Reads

variable {X : Valuation τ sig (Elt Ideal)}

theorem at2_eq {s : Shape} {i : s.Idx} {a b : TRef sig ⟨s, .i32⟩} {p : W × W} (h : at2 X i a b = p) : rd X a i = p.1 ∧ rd X b i = p.2 :=
  ⟨congrArg Prod.fst h, congrArg Prod.snd h⟩

theorem fold_in {a0 a1} {φ : fn_threefry_fold_in.Bufs} (h : Sat X (fn_threefry_fold_in.body (F := Ideal) a0 a1 φ)) (r : Fin 1024) :
    at2 X (ix2 r 0) φ.call0.v171 φ.call0.v175 = tf (rd X a0 (ix1 0)) (rd X a0 (ix1 1)) 0#32 (rd X a1 (ix1 r))
      ∧ rd X φ.v14 (ix2 r 0) = rd X φ.call0.v171 (ix2 r 0) ∧ rd X φ.v14 (ix2 r 1) = rd X φ.call0.v175 (ix2 r 0) := by
  unfold fn_threefry_fold_in.body at h
  simp only [sat_bind, sat_pure, and_assoc] at h
  obtain ⟨g0, g1, g2, g3, g4, g5, g6, g7, g8, g9, g10, g11, g12, g13, g14, ht, g15, -⟩ := h
  have e := opB g15
  refine ⟨(tf1 ht r 0).trans ?_, ?_, ?_⟩
  · rw [opR g10, opR g12, opU g9, opU g11, opU g13, opU g14, opB g8, opU g3, opU g7, opB g2, opB g6, opU g5, opN g4, opU g1, opN g0]
    rw [col0, col1, cat0, cat1, up0, up0]
    have ha : ∀ w : W, IntOp.andi w 4294967295#32 = w := fun w => by
      show w &&& BitVec.allOnes 32 = w
      exact BitVec.and_allOnes
    have hs : ∀ w : W, IntOp.shrui .host w 32#32 = 0#32 := fun w => by simp [IntOp.shrui, IntOp.cornerWord]
    have h0 : ∀ w : S2.Idx → W, shapeCast S_ (extractStridedSlice S1 ![0] w slices_S2_S1_0) shapeCasts_S1_S_ ix0 = w (ix1 0) := fun w =>
      congrArg w (funext fun k => by match k with | ⟨0, _⟩ => rfl)
    have h1 : ∀ w : S2.Idx → W, shapeCast S_ (extractStridedSlice S1 ![1] w slices_S2_S1_1) shapeCasts_S1_S_ ix0 = w (ix1 1) := fun w =>
      congrArg w (funext fun k => by match k with | ⟨0, _⟩ => rfl)
    rw [h0, h1]
    show tf _ _ (IntOp.shrui .host _ _) (IntOp.andi _ _) = _
    rw [bscal, bscal]
    show tf _ _ (IntOp.shrui .host _ 32#32) (IntOp.andi _ 4294967295#32) = _
    rw [hs, ha]
  · rw [e]; exact cat0 _ _ _ _
  · rw [e]; exact cat1 _ _ _ _

/-- The 64-bit counters' low words count and their high words are zero. -/
theorem counters2 (j : Fin 2) :
    broadcastInDim S1x2 ![1] bcast_S2_S1x2_1 (trunci 32 (muli (broadcastInDim S2 ![] bcast_S_S2 (constantI S_ 64 1#64)) (iotaInDim S2 64 0)) natLt_32_64)
        (ix2 0 j) = BitVec.ofNat 32 j
    ∧ broadcastInDim S1x2 ![1] bcast_S2_S1x2_1 (trunci 32 (Host.shrui (muli (broadcastInDim S2 ![] bcast_S_S2 (constantI S_ 64 1#64)) (iotaInDim S2 64 0))
        (broadcastInDim S2 ![] bcast_S_S2 (constantI S_ 64 32#64))) natLt_32_64) (ix2 0 j) = 0#32 := by
  rw [up1, up1]
  revert j
  decide +kernel

theorem counters20 (j : Fin 20) :
    broadcastInDim S1x20 ![1] bcast_S20_S1x20_1 (trunci 32 (muli (broadcastInDim S20 ![] bcast_S_S20 (constantI S_ 64 1#64)) (iotaInDim S20 64 0)) natLt_32_64)
        (ix2 0 j) = BitVec.ofNat 32 j
    ∧ broadcastInDim S1x20 ![1] bcast_S20_S1x20_1 (trunci 32 (Host.shrui (muli (broadcastInDim S20 ![] bcast_S_S20 (constantI S_ 64 1#64)) (iotaInDim S20 64 0))
        (broadcastInDim S20 ![] bcast_S_S20 (constantI S_ 64 32#64))) natLt_32_64) (ix2 0 j) = 0#32 := by
  rw [up1, up1]
  revert j
  decide +kernel

theorem split {a0} {φ : fn_threefry_split.Bufs} (h : Sat X (fn_threefry_split.body (F := Ideal) a0 φ)) (r : Fin 1024) (j : Fin 2) :
    rd X φ.v18 (ix3 r j 0) = (part (rd X a0 (ix2 r 0), rd X a0 (ix2 r 1)) (BitVec.ofNat 32 j)).1
      ∧ rd X φ.v18 (ix3 r j 1) = (part (rd X a0 (ix2 r 0), rd X a0 (ix2 r 1)) (BitVec.ofNat 32 j)).2 := by
  unfold fn_threefry_split.body at h
  simp only [sat_bind, sat_pure, and_assoc] at h
  obtain ⟨g0, g1, g2, g3, g4, g5, g6, g7, g8, g9, g10, g11, g12, g13, g14, g15, g16, ht, g17, g18, g19, -⟩ := h
  have e := tf2 ht r j
  rw [opU g15, opU g16, opU g13, opU g14, opU g12, opU g11, opB g10, opB g7, opU g9, opU g6, opN g8, opN g5, opN g4, opR g1, opR g3, opU g0,
    opU g2, up0, up0, flat, flat, col0, col1, (counters2 j).1, (counters2 j).2] at e
  rw [opB g19]
  refine ⟨(cat3 _ _ _ _ _).1.trans ?_, (cat3 _ _ _ _ _).2.trans ?_⟩
  · rw [opU g17, up3]; exact congrArg Prod.fst e
  · rw [opU g18, up3]; exact congrArg Prod.snd e

/-- A word below the divisor's reach: the host's remainder by 999. -/
theorem rem999 (w : W) : IntOp.remui .host w 999#32 = w % 999#32 := if_neg (by decide)

/-- A one-word vector repeated over a plane. -/
theorem bone (h h') (x : S1.Idx → W) (c : W) (hx : ∀ i, x i = c) (i : S1024x20.Idx) :
    broadcastInDim S1024x20 (![0, 1] : Fin 2 → Fin 2) h (broadcastInDim S1x1 (![1] : Fin 1 → Fin 2) h' x) i = c := hx _

theorem randint {a0 a1 a2} {φ : fn_randint.Bufs} (h : Sat X (fn_randint.body (F := Ideal) a0 a1 a2 φ)) (h1 : rd X a1 = constantI S_ 32 1#32)
    (h2 : rd X a2 = constantI S_ 32 1000#32) (r : Fin 1024) (t : Fin 20) :
    rd X φ.v78 (ix2 r t) = 1#32 + reduce999 (draw (part (rd X a0 (ix2 r 0), rd X a0 (ix2 r 1)) 0#32) (BitVec.ofNat 32 t))
      (draw (part (rd X a0 (ix2 r 0), rd X a0 (ix2 r 1)) 1#32) (BitVec.ofNat 32 t)) := by
  unfold fn_randint.body fn_randint.body_part0 fn_randint.body_part1 fn_clip.body fn_clip_0.body at h
  simp only [sat_bind, sat_pure, and_assoc, true_and] at h
  obtain ⟨g0, g1, g2, k0, k1, g3, g4, g5, k2, k3, g6, g7, g8, k4, k5, g9, g10, g11, hs, g12, g13, g14, g15, g16, g17, g18, g19, g20, g21, g22, g23, g24, g25, g26, g27, g28, g29, g30, g31, g32, t4, g33, g34, g35, g36, g37, g38, g39, g40, g41, g42, g43, g44, g45, g46, g47, g48, g49, g50, t5, g51, g52, g53, g54, g55, g56, g57, g58, g59, g60, g61, g62, g63, g64, g65, g66, g67, g68, g69, g70, g71, g72, g73, g74, g75, g76, g77, g78, g79, g80, g81, g82, g83, g84, g85, g86, -⟩ := h
  -- the bounds of the draw
  have c6 : ∀ i, rd X φ.v6 i = 1#32 := by
    rw [opU g10, opU g6, opB k3, opB k2, opN g4, opN g5, h1]
    intro i
    show IntOp.minsi 2147483647#32 (IntOp.maxsi 2147483648#32 1#32) = 1#32
    decide
  have c7 : ∀ i, rd X φ.v7 i = 1000#32 := by
    rw [opU g11, opU g9, opB k5, opB k4, opN g7, opN g8, h2]
    intro i
    show IntOp.minsi 2147483647#32 (IntOp.maxsi 2147483648#32 1000#32) = 1000#32
    decide
  have c53 : ∀ i, rd X φ.v53 i = 0#1 := by
    rw [opU g59, opB g3, opB k1, opB k0, opN g0, opN g1, opN g2, h2]
    intro i
    show IntOp.cmpi .sgt 1000#32 (IntOp.minsi 2147483647#32 (IntOp.maxsi 2147483648#32 2147483647#32)) = 0#1
    decide
  have c57 : ∀ i, rd X φ.v57 i = 999#32 := by
    intro i
    have e51 : rd X φ.v51 i = 999#32 := by
      rw [opT g57, opB g54, opU g53, opB g52]
      show Scalar.select (IntOp.cmpi .sle (rd X φ.v7 i) (rd X φ.v6 i)) _ (IntOp.subi (rd X φ.v7 i) (rd X φ.v6 i)) = _
      rw [c6, c7]
      exact select_zero _ _
    rw [opT g64, opB g60]
    show Scalar.select (IntOp.andi (rd X φ.v53 i) _) _ (rd X φ.v51 i) = _
    rw [c53, e51]
    exact (congrArg (fun b => Scalar.select b _ _) (BitVec.zero_and)).trans (select_zero _ _)
  have c61 : ∀ i, rd X φ.v61 i = 562#32 := by
    intro i
    have e59 : rd X φ.v59 i = 601#32 := by
      rw [opB g67, opU g66, opN g65]
      show IntOp.remui .host 65536#32 (rd X φ.v57 i) = _
      rw [c57, rem999]; decide
    rw [opB g69, opB g68]
    show IntOp.remui .host (IntOp.muli (rd X φ.v59 i) (rd X φ.v59 i)) (rd X φ.v57 i) = _
    rw [c57, e59, rem999]; decide
  -- the two words drawn
  have d29 : rd X φ.v29 (ix2 r t) = draw (part (rd X a0 (ix2 r 0), rd X a0 (ix2 r 1)) 0#32) (BitVec.ofNat 32 t) := by
    have e := tf20 t4 r t
    rw [opU g31, opU g32, opU g29, opU g30, opU g28, opU g27, opB g26, opB g23, opU g25, opU g22, opN g24, opN g21, opN g20, opR g17, opR g19,
      opU g16, opU g18, up0, up0, flat, flat, col0, col1, (counters20 t).1, (counters20 t).2, opR g13, opU g12,
      row3 0 (by decide), row3 0 (by decide)] at e
    have s0 : rd X φ.call3.v18 (ix3 r ⟨0, by decide⟩ 0) = (part (rd X a0 (ix2 r 0), rd X a0 (ix2 r 1)) 0#32).1 := (split hs r 0).1
    have s1 : rd X φ.call3.v18 (ix3 r ⟨0, by decide⟩ 1) = (part (rd X a0 (ix2 r 0), rd X a0 (ix2 r 1)) 0#32).2 := (split hs r 0).2
    rw [s0, s1] at e
    rw [opB g33]
    show IntOp.xori _ _ = _
    rw [(at2_eq e).1, (at2_eq e).2]
    rfl
  have d46 : rd X φ.v46 (ix2 r t) = draw (part (rd X a0 (ix2 r 0), rd X a0 (ix2 r 1)) 1#32) (BitVec.ofNat 32 t) := by
    have e := tf20 t5 r t
    rw [opU g49, opU g50, opU g47, opU g48, opU g46, opU g45, opB g44, opB g41, opU g43, opU g40, opN g42, opN g39, opN g38, opR g35, opR g37,
      opU g34, opU g36, up0, up0, flat, flat, col0, col1, (counters20 t).1, (counters20 t).2, opR g15, opU g14,
      row3 1 (by decide), row3 1 (by decide)] at e
    have s0 : rd X φ.call3.v18 (ix3 r ⟨1, by decide⟩ 0) = (part (rd X a0 (ix2 r 0), rd X a0 (ix2 r 1)) 1#32).1 := (split hs r 1).1
    have s1 : rd X φ.call3.v18 (ix3 r ⟨1, by decide⟩ 1) = (part (rd X a0 (ix2 r 0), rd X a0 (ix2 r 1)) 1#32).2 := (split hs r 1).2
    rw [s0, s1] at e
    rw [opB g51]
    show IntOp.xori _ _ = _
    rw [(at2_eq e).1, (at2_eq e).2]
    rfl
  rw [opB g86, opU g85, opU g84, opU g83, opB g82, opU g81, opU g80, opB g79, opB g78, opU g77, opU g76, opB g75, opU g74, opU g73, opB g72,
    opU g71, opU g70]
  show IntOp.addi _ (IntOp.remui .host (IntOp.addi (IntOp.muli (IntOp.remui .host (rd X φ.v29 (ix2 r t)) _) _)
    (IntOp.remui .host (rd X φ.v46 (ix2 r t)) _)) _) = _
  rw [bone _ _ _ _ c6, bone _ _ _ _ c57, bone _ _ _ _ c61, rem999, rem999, rem999, d29, d46]
  rfl

end Cert.RefValue
-- ==== Proof.RefMain.lean ====
/- The reference's result: the one-hot rows of the messages that the row sums seed. -/
module

public import proofs.«01_k».proof.Proof.RefValue
public import proofs.«01_k».proof.Proof.Spec

@[expose] public section

set_option maxRecDepth 20000

noncomputable section

namespace Cert.RefMain

open Idealize.ShloMosaic hiding ix0 ix1 ix2 ix3
open Idealize.ShloMosaic.StableHlo Idealize.SL.Sem Cert.ReferenceIdeal Cert.Line Cert.Threefry Cert.RefTf Cert.RefValue Cert.Spec
open Idealize.ShloMosaic.ValueIdx Facts₀ Facts

attribute [local instance] Cert.ReferenceIdeal.Gen.facts
attribute [local irreducible] tf

variable {X : Valuation τ sig (Elt Ideal)}

theorem one_hot {a0} {φ : fn_one_hot.Bufs} (h : Sat X (fn_one_hot.body (F := Ideal) a0 φ)) (r : Fin 1024) (t : Fin 21) (v : Fin 1000) :
    rd X φ.v5 (ix3 r t v) = FloatOps.uitofp (F := Ideal) .f32 (IntOp.cmpi .eq (rd X a0 (ix2 r t)) (BitVec.ofNat 32 v)) := by
  unfold fn_one_hot.body at h
  simp only [sat_bind, sat_pure, and_assoc] at h
  obtain ⟨g0, g1, g2, g3, g4, g5, -⟩ := h
  have e0 : rd X φ.v2 (ix3 r t v) = rd X a0 (ix2 r t) := by
    rw [opU g2, opU g0]
    refine (broadcastInDim_apply _ _ _ _ (ix3 r t 0) fun k => ?_).trans (up3 _ _ _ _)
    match k with
    | ⟨0, _⟩ => rfl
    | ⟨1, _⟩ => rfl
    | ⟨2, _⟩ => rfl
  have e1 : rd X φ.v3 (ix3 r t v) = BitVec.ofNat 32 v := by
    rw [opU g3, opN g1]
    refine (broadcastInDim_apply _ _ _ _ (ix3 0 0 v) fun k => ?_).trans rfl
    match k with
    | ⟨0, _⟩ => rfl
    | ⟨1, _⟩ => rfl
    | ⟨2, _⟩ => rfl
  rw [opU g5, opB g4]
  show FloatOps.uitofp .f32 (IntOp.cmpi .eq (rd X φ.v2 (ix3 r t v)) (rd X φ.v3 (ix3 r t v))) = _
  rw [e0, e1]

/-- Zeros put after the messages' letters. -/
theorem closed (h : Shape.Concatenates [S1024x20, S1024x1] S1024x21 1) (x : S1024x20.Idx → W) (y : S1024x1.Idx → W) (r : Fin 1024) (t : Fin 21) :
    concatenate S1024x21 1 [⟨S1024x20, x⟩, ⟨S1024x1, y⟩] h (ix2 r t) = if ht : (t : ℕ) < 20 then x (ix2 r ⟨t, ht⟩) else y (ix2 r 0) := by
  split
  next ht =>
    refine concatenate_pair_apply_left (t := S1024x21) 1 x y h (ix2 r t) rfl (ix2 r ⟨t, ht⟩) fun k => ?_
    match k with
    | ⟨0, _⟩ => rfl
    | ⟨1, _⟩ => rfl
  next ht =>
    refine concatenate_pair_apply_right (t := S1024x21) 1 x y h (ix2 r t) rfl rfl (ix2 r 0) (fun k hk => ?_) ?_
    · match k with
      | ⟨0, _⟩ => rfl
      | ⟨1, _⟩ => exact absurd rfl hk
    · show (20 : ℕ) + 0 = t
      omega

/-- The host's row sum. -/
theorem sum_host (x : S1024x2048.Idx → EReal) (h : S1024x2048.ReducesTo [1] S1024) (h' : 0 < S_.numel) (r : Fin 1024) :
    Host.reduceAdd (F := Ideal) (φ := .f32) x (constant S_ .f32 0x00000000#32) h h' (ix1 r) = ∑ k : Fin 2048, x (ix2 r k) := by
  rw [hostReduceAdd_apply, Ideal.hostReduceAdd_r2_a1]
  rw [show constant (F := Ideal) S_ .f32 0x00000000#32 (Shape.Idx.first h') = 0 from Ideal.ofBits_zero_f32, zero_add]
  rfl

/-- The host's row sum, times 1000, as a word. -/
theorem seed_host (x : S1024x2048.Idx → EReal) (h : S1024x2048.ReducesTo [1] S1024) (h' : 0 < S_.numel) (h'') (r : Fin 1024) :
    fptosi (F := Ideal) (φ := .f32) 32 (mulf (Host.reduceAdd (F := Ideal) (φ := .f32) x (constant S_ .f32 0x00000000#32) h h')
      (broadcastInDim S1024 ![] h'' (constant (F := Ideal) S_ .f32 0x447A0000#32))) (ix1 r) = seed x r :=
  congrArg (fun s => Ideal.fptosi 32 (s * Ideal.ofBits .f32 0x447A0000#32)) (sum_host x h h' r)

section Plain
variable {Λ : Labels} {a b y : Ref sig .tc}

theorem pN {v hy} (h : Op nD Λ X (nullary y v hy)) : X (Proc.devRef .tc y) = v :=
  ((nullary_result y v hy X).symm.trans (congrFun h.eq _)).symm
theorem pU {f ha hy} (h : Op nD Λ X (unary a y f ha hy)) : X (Proc.devRef .tc y) = f (X (Proc.devRef .tc a)) :=
  ((unary_result _ _ _ ha hy X).symm.trans (congrFun h.eq _)).symm
theorem pB {f ha hb hy} (h : Op nD Λ X (binary a b y f ha hb hy)) :
    X (Proc.devRef .tc y) = f (X (Proc.devRef .tc a)) (X (Proc.devRef .tc b)) :=
  ((binary_result _ _ _ _ ha hb hy X).symm.trans (congrFun h.eq _)).symm

end Plain

/-- The reference's result at an index. -/
theorem main_value (d : Dev nD) (h : Sat X (main (F := Ideal) d)) (r : Fin 1024) (t : Fin 21) (v : Fin 1000) :
    (X (Proc.devRef .tc main_v17) : S1024x21x1000.Idx → EReal) (ix3 r t v) = hot (X (Proc.devRef .tc main_arg0)) r t v := by
  unfold main at h
  simp only [sat_bind, sat_pure, and_assoc] at h
  obtain ⟨g0, g1, g2, g3, g4, g5, g6, g7, g8, g9, g10, g11, g12, g13, g14, g15, g16, hf, g17, g18, hr, g19, g20, g21, g22, ho, -⟩ := h
  have es : rd X (.of main_v4 : TRef sig ⟨S1024, .i32⟩) (ix1 r) = seed (X (Proc.devRef .tc main_arg0)) r := by
    show (X (Proc.devRef .tc main_v4) : S1024.Idx → W) (ix1 r) = _
    rw [pU g6, pU g5, pB g4, pU g3, pN g2, pB g1, pN g0]
    exact seed_host _ _ _ _ r
  have e11 : rd X (.of main_v11 : TRef sig ⟨S2, .i32⟩) (ix1 0) = 0#32 ∧ rd X (.of main_v11 : TRef sig ⟨S2, .i32⟩) (ix1 1) = 42#32 := by
    show (X (Proc.devRef .tc main_v11) : S2.Idx → W) (ix1 0) = 0#32 ∧ (X (Proc.devRef .tc main_v11) : S2.Idx → W) (ix1 1) = 42#32
    rw [pB g16, pU g11, pU g10, pB g9, pU g15, pU g14, pB g13, pN g7, pN g8, pN g12]
    decide +kernel
  have ef := fold_in hf r
  rw [e11.1, e11.2, es] at ef
  have ek : (rd X (.of main_v12 : TRef sig ⟨S1024x2, .i32⟩) (ix2 r 0), rd X (.of main_v12 : TRef sig ⟨S1024x2, .i32⟩) (ix2 r 1))
      = key (seed (X (Proc.devRef .tc main_arg0)) r) :=
    Prod.ext (ef.2.1.trans (at2_eq ef.1).1) (ef.2.2.trans (at2_eq ef.1).2)
  have em : ∀ t : Fin 20, (X (Proc.devRef .tc main_v13) : S1024x20.Idx → W) (ix2 r t)
      = letter (seed (X (Proc.devRef .tc main_arg0)) r) (BitVec.ofNat 32 t) := by
    intro t
    have e := randint hr (pN g17) (pN g18) r t
    rw [ek] at e
    exact e
  refine (one_hot ho r t v).trans ?_
  show FloatOps.uitofp (F := Ideal) .f32 (IntOp.cmpi .eq ((X (Proc.devRef .tc main_v16) : S1024x21.Idx → W) (ix2 r t)) (BitVec.ofNat 32 v)) = _
  rw [pB g22, pU g21, pN g20]
  unfold hot message
  congr 2
  refine (closed _ _ _ r t).trans ?_
  split
  next ht => exact em ⟨t, ht⟩
  next => rfl

end Cert.RefMain

end
-- ==== Proof.Same.lean ====
/- The two programs end with the same result: each row's message, one-hot. -/
module

public import proofs.«01_k».proof.Defs
public import proofs.«01_k».proof.Proof.KerArr
public import proofs.«01_k».proof.Proof.RefMain

@[expose] public section

noncomputable section

namespace Cert.Same

open Idealize.ShloMosaic hiding ix0 ix1 ix2 ix3
open Idealize.ShloMosaic.ValueIdx
open Idealize.ShloMosaic.TcCoe
open Idealize.SL.Sem

theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => fun i : Cert.KernelIdeal.S1024x21x1000.Idx => Cert.Spec.hot (Cert.KerArr.arg m c) (i 0) (i 1) (i 2), ?_, ?_⟩
  · exact (θ_run _ _ _).mono (fun _ h c => ⟨(h c).1.trans (Cert.KerArr.result m c), (h c).2⟩) (Cert.KernelIdeal.Value.run m g)
  · refine (θ_run _ _ _).mono (fun r h c => ?_) (Cert.RefLine.run m' g')
    obtain ⟨X, hX, hr, ha⟩ := h c
    refine ⟨(hr Cert.ReferenceIdeal.main_v17).trans ?_, (hr Cert.ReferenceIdeal.main_arg0).trans ha⟩
    funext i
    have hi : i = ix3 (i 0) (i 1) (i 2) := funext fun a => match a with | ⟨0, _⟩ => rfl | ⟨1, _⟩ => rfl | ⟨2, _⟩ => rfl
    have e := Cert.RefMain.main_value c hX (i 0) (i 1) (i 2)
    rw [ha, hm c] at e
    rw [hi]
    exact e

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.RefLine
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, ⟨
  fun m ρ _ => Cert.Kernel.Gen.frame m ρ,
  fun m ρ _ => Cert.KernelIdeal.Gen.frame m ρ,
  Cert.RefLine.quiescent, trivial, Cert.Same.algebraic⟩⟩

end Cert.Proof

end
